-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![4096, 16384]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![16384, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x2048 : Shape := ⟨2, ![4096, 2048]⟩
abbrev S2048x4096 : Shape := ⟨2, ![2048, 4096]⟩
abbrev S4096x4096 : Shape := ⟨2, ![4096, 4096]⟩
abbrev S2x512x2048 : Shape := ⟨3, ![2, 512, 2048]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .bf16⟩
  | .local _ .vmem, ⟨0, _⟩ => ⟨S2048x4096, .bf16⟩
  | .local _ .vmem, ⟨1, _⟩ => ⟨S4096x4096, .bf16⟩
  | .local _ .vmem, ⟨2, _⟩ => ⟨S2x512x2048, .bf16⟩
  | .local _ .vmem, ⟨3, _⟩ => ⟨S2x512x2048, .bf16⟩
  | .local _ .vmem, ⟨4, _⟩ => ⟨S2x512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => true
  | ⟨1, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 2 12 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 1

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32 : BitVec 32 := 512#32
  let v17 : BitVec 32 := Scalar.muli v5 c512_i32
  let c0_i32_12 : BitVec 32 := 0#32
  ![v17.toNat, 0]
def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_14 : BitVec 32 := 1#32
  let v24 : BitVec 32 := Scalar.muli v16 c1_i32_14
  let v25 : BitVec 32 := Scalar.addi c0_i32_15 v24
  v25.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_17 : BitVec 32 := 1#32
  let v26 : BitVec 32 := Scalar.muli v10 c1_i32_17
  let v27 : BitVec 32 := Scalar.addi c0_i32_18 v26
  v27.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32 : BitVec 32 := 16#32
  let v28 : BitVec 32 := Scalar.addi v5 c16_i32
  let c1_i32_19 : BitVec 32 := 1#32
  let v29 : BitVec 32 := Scalar.subi v28 c1_i32_19
  let c8_i32_20 : BitVec 32 := 8#32
  let v30 : BitVec 32 := Scalar.remsi v29 c8_i32_20
  let c512_i32_21 : BitVec 32 := 512#32
  let v31 : BitVec 32 := Scalar.muli v30 c512_i32_21
  let c0_i32_26 : BitVec 32 := 0#32
  ![v31.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_33 : BitVec 32 := 512#32
  let v43 : BitVec 32 := Scalar.muli v5 c512_i32_33
  let v50 : Index := Scalar.indexCast v43
  let c0_38 : Index := 0#32
  ![v50.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_33 : BitVec 32 := 512#32
  let v43 : BitVec 32 := Scalar.muli v5 c512_i32_33
  let v56 : Index := Scalar.indexCast v43
  let c2048_41 : Index := 2048#32
  ![v56.toNat, 2048]
@[reducible] def k0_t1_loop : Scf.Loop 32 :=
  let c0_i32_42 : BitVec 32 := 0#32
  let c7_i32 : BitVec 32 := 7#32
  let v58 : BitVec 32 := Scalar.addi c0_i32_42 c7_i32
  let c1_i32_43 : BitVec 32 := 1#32
  ⟨c0_i32_42, v58, c1_i32_43⟩
def k0_off5 (k0_t1 : Fin k0_t1_loop.trips) : Fin 1 → Nat :=
  let c0_i32_42 : BitVec 32 := 0#32
  let c1_i32_43 : BitVec 32 := 1#32
  let arg12 : BitVec 32 := Scf.iv c0_i32_42 c1_i32_43 k0_t1
  let c2_i32_49 : BitVec 32 := 2#32
  let v60 : BitVec 32 := Scalar.remsi arg12 c2_i32_49
  ![v60.toNat]
def k0_off6 (k0_t1 : Fin k0_t1_loop.trips) : Fin 3 → Nat :=
  let c0_i32_42 : BitVec 32 := 0#32
  let c1_i32_43 : BitVec 32 := 1#32
  let arg12 : BitVec 32 := Scf.iv c0_i32_42 c1_i32_43 k0_t1
  let c2_i32_49 : BitVec 32 := 2#32
  let v60 : BitVec 32 := Scalar.remsi arg12 c2_i32_49
  let c0_i32_58 : BitVec 32 := 0#32
  let c0_i32_59 : BitVec 32 := 0#32
  ![v60.toNat, 0, 0]
def k0_off7 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_50 : BitVec 32 := 16#32
  let v61 : BitVec 32 := Scalar.addi v5 c16_i32_50
  let c0_i32_42 : BitVec 32 := 0#32
  let c1_i32_43 : BitVec 32 := 1#32
  let arg12 : BitVec 32 := Scf.iv c0_i32_42 c1_i32_43 k0_t1
  let v62 : BitVec 32 := Scalar.subi v61 arg12
  let c8_i32_51 : BitVec 32 := 8#32
  let v63 : BitVec 32 := Scalar.remsi v62 c8_i32_51
  let c512_i32_52 : BitVec 32 := 512#32
  let v64 : BitVec 32 := Scalar.muli v63 c512_i32_52
  let c0_i32_60 : BitVec 32 := 0#32
  ![v64.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_56 : BitVec 32 := 1#32
  let v69 : BitVec 32 := Scalar.muli v10 c1_i32_56
  let v70 : BitVec 32 := Scalar.addi c0_i32_57 v69
  v70.toNat
def k0_off8 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_53 : BitVec 32 := 16#32
  let v65 : BitVec 32 := Scalar.addi v5 c16_i32_53
  let c0_i32_42 : BitVec 32 := 0#32
  let c1_i32_43 : BitVec 32 := 1#32
  let arg12 : BitVec 32 := Scf.iv c0_i32_42 c1_i32_43 k0_t1
  let v66 : BitVec 32 := Scalar.addi v65 arg12
  let c8_i32_54 : BitVec 32 := 8#32
  let v67 : BitVec 32 := Scalar.remsi v66 c8_i32_54
  let c512_i32_55 : BitVec 32 := 512#32
  let v68 : BitVec 32 := Scalar.muli v67 c512_i32_55
  let c2048_i32 : BitVec 32 := 2048#32
  ![v68.toNat, 2048]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_61 : BitVec 32 := 1#32
  let v78 : BitVec 32 := Scalar.muli v16 c1_i32_61
  let v79 : BitVec 32 := Scalar.addi c0_i32_62 v78
  v79.toNat
def k0_cond1 (k0_t1 : Fin k0_t1_loop.trips) : BitVec 1 :=
  let c0_i32_42 : BitVec 32 := 0#32
  let c1_i32_43 : BitVec 32 := 1#32
  let arg12 : BitVec 32 := Scf.iv c0_i32_42 c1_i32_43 k0_t1
  let c4_i32_65 : BitVec 32 := 4#32
  let v87 : BitVec 1 := Scalar.cmpi .slt arg12 c4_i32_65
  let v88 : BitVec 32 := Scalar.extui v87
  let c0_i32_66 : BitVec 32 := 0#32
  let v89 : BitVec 1 := Scalar.cmpi .ne v88 c0_i32_66
  v89

def k0_cond2 (k0_t1 : Fin k0_t1_loop.trips) : BitVec 1 :=
  let c0_i32_42 : BitVec 32 := 0#32
  let c1_i32_43 : BitVec 32 := 1#32
  let arg12 : BitVec 32 := Scf.iv c0_i32_42 c1_i32_43 k0_t1
  let c3_i32_110 : BitVec 32 := 3#32
  let v155 : BitVec 1 := Scalar.cmpi .slt arg12 c3_i32_110
  let v156 : BitVec 32 := Scalar.extui v155
  let c0_i32_111 : BitVec 32 := 0#32
  let v157 : BitVec 1 := Scalar.cmpi .ne v156 c0_i32_111
  v157

def k0_off9 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_133 : BitVec 32 := 16#32
  let v184 : BitVec 32 := Scalar.addi v5 c16_i32_133
  let c0_i32_42 : BitVec 32 := 0#32
  let c1_i32_43 : BitVec 32 := 1#32
  let arg12 : BitVec 32 := Scf.iv c0_i32_42 c1_i32_43 k0_t1
  let c1_i32_132 : BitVec 32 := 1#32
  let v183 : BitVec 32 := Scalar.addi arg12 c1_i32_132
  let v185 : BitVec 32 := Scalar.addi v184 v183
  let c8_i32_134 : BitVec 32 := 8#32
  let v186 : BitVec 32 := Scalar.remsi v185 c8_i32_134
  let c512_i32_135 : BitVec 32 := 512#32
  let v187 : BitVec 32 := Scalar.muli v186 c512_i32_135
  let c0_i32_140 : BitVec 32 := 0#32
  ![v187.toNat, 0]
def k0_off10 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_113 : BitVec 32 := 16#32
  let v159 : BitVec 32 := Scalar.addi v5 c16_i32_113
  let c0_i32_42 : BitVec 32 := 0#32
  let c1_i32_43 : BitVec 32 := 1#32
  let arg12 : BitVec 32 := Scf.iv c0_i32_42 c1_i32_43 k0_t1
  let c1_i32_112 : BitVec 32 := 1#32
  let v158 : BitVec 32 := Scalar.addi arg12 c1_i32_112
  let v160 : BitVec 32 := Scalar.subi v159 v158
  let c8_i32_114 : BitVec 32 := 8#32
  let v161 : BitVec 32 := Scalar.remsi v160 c8_i32_114
  let c512_i32_115 : BitVec 32 := 512#32
  let v162 : BitVec 32 := Scalar.muli v161 c512_i32_115
  let c0_i32_120 : BitVec 32 := 0#32
  ![v162.toNat, 0]
def k0_off11 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_113 : BitVec 32 := 16#32
  let v159 : BitVec 32 := Scalar.addi v5 c16_i32_113
  let c0_i32_42 : BitVec 32 := 0#32
  let c1_i32_43 : BitVec 32 := 1#32
  let arg12 : BitVec 32 := Scf.iv c0_i32_42 c1_i32_43 k0_t1
  let c1_i32_112 : BitVec 32 := 1#32
  let v158 : BitVec 32 := Scalar.addi arg12 c1_i32_112
  let v160 : BitVec 32 := Scalar.subi v159 v158
  let c8_i32_114 : BitVec 32 := 8#32
  let v161 : BitVec 32 := Scalar.remsi v160 c8_i32_114
  let c512_i32_121 : BitVec 32 := 512#32
  let v168 : BitVec 32 := Scalar.muli v161 c512_i32_121
  let v175 : Index := Scalar.indexCast v168
  let c0_127 : Index := 0#32
  ![v175.toNat, 0]
def k0_off12 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_113 : BitVec 32 := 16#32
  let v159 : BitVec 32 := Scalar.addi v5 c16_i32_113
  let c0_i32_42 : BitVec 32 := 0#32
  let c1_i32_43 : BitVec 32 := 1#32
  let arg12 : BitVec 32 := Scf.iv c0_i32_42 c1_i32_43 k0_t1
  let c1_i32_112 : BitVec 32 := 1#32
  let v158 : BitVec 32 := Scalar.addi arg12 c1_i32_112
  let v160 : BitVec 32 := Scalar.subi v159 v158
  let c8_i32_114 : BitVec 32 := 8#32
  let v161 : BitVec 32 := Scalar.remsi v160 c8_i32_114
  let c512_i32_121 : BitVec 32 := 512#32
  let v168 : BitVec 32 := Scalar.muli v161 c512_i32_121
  let v181 : Index := Scalar.indexCast v168
  let c2048_131 : Index := 2048#32
  ![v181.toNat, 2048]
def k0_cond3 (k0_t1 : Fin k0_t1_loop.trips) : BitVec 1 :=
  let c0_i32_42 : BitVec 32 := 0#32
  let c1_i32_43 : BitVec 32 := 1#32
  let arg12 : BitVec 32 := Scf.iv c0_i32_42 c1_i32_43 k0_t1
  let c3_i32 : BitVec 32 := 3#32
  let v90 : BitVec 1 := Scalar.cmpi .slt arg12 c3_i32
  let v91 : BitVec 32 := Scalar.extui v90
  let c0_i32_67 : BitVec 32 := 0#32
  let v92 : BitVec 1 := Scalar.cmpi .ne v91 c0_i32_67
  v92

def k0_off13 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_111 : BitVec 32 := 16#32
  let v156 : BitVec 32 := Scalar.addi v5 c16_i32_111
  let c0_i32_42 : BitVec 32 := 0#32
  let c1_i32_43 : BitVec 32 := 1#32
  let arg12 : BitVec 32 := Scf.iv c0_i32_42 c1_i32_43 k0_t1
  let c2_i32_110 : BitVec 32 := 2#32
  let v155 : BitVec 32 := Scalar.addi arg12 c2_i32_110
  let v157 : BitVec 32 := Scalar.subi v156 v155
  let c8_i32_112 : BitVec 32 := 8#32
  let v158 : BitVec 32 := Scalar.remsi v157 c8_i32_112
  let c512_i32_113 : BitVec 32 := 512#32
  let v159 : BitVec 32 := Scalar.muli v158 c512_i32_113
  let c0_i32_118 : BitVec 32 := 0#32
  ![v159.toNat, 0]
def k0_off14 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_120 : BitVec 32 := 16#32
  let v166 : BitVec 32 := Scalar.addi v5 c16_i32_120
  let c0_i32_42 : BitVec 32 := 0#32
  let c1_i32_43 : BitVec 32 := 1#32
  let arg12 : BitVec 32 := Scf.iv c0_i32_42 c1_i32_43 k0_t1
  let c1_i32_119 : BitVec 32 := 1#32
  let v165 : BitVec 32 := Scalar.addi arg12 c1_i32_119
  let v167 : BitVec 32 := Scalar.addi v166 v165
  let c8_i32_121 : BitVec 32 := 8#32
  let v168 : BitVec 32 := Scalar.remsi v167 c8_i32_121
  let c512_i32_122 : BitVec 32 := 512#32
  let v169 : BitVec 32 := Scalar.muli v168 c512_i32_122
  let c0_i32_127 : BitVec 32 := 0#32
  ![v169.toNat, 0]
def k0_off15 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_120 : BitVec 32 := 16#32
  let v166 : BitVec 32 := Scalar.addi v5 c16_i32_120
  let c0_i32_42 : BitVec 32 := 0#32
  let c1_i32_43 : BitVec 32 := 1#32
  let arg12 : BitVec 32 := Scf.iv c0_i32_42 c1_i32_43 k0_t1
  let c1_i32_119 : BitVec 32 := 1#32
  let v165 : BitVec 32 := Scalar.addi arg12 c1_i32_119
  let v167 : BitVec 32 := Scalar.addi v166 v165
  let c8_i32_121 : BitVec 32 := 8#32
  let v168 : BitVec 32 := Scalar.remsi v167 c8_i32_121
  let c512_i32_128 : BitVec 32 := 512#32
  let v175 : BitVec 32 := Scalar.muli v168 c512_i32_128
  let v182 : Index := Scalar.indexCast v175
  let c0_135 : Index := 0#32
  ![v182.toNat, 0]
def k0_off16 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_120 : BitVec 32 := 16#32
  let v166 : BitVec 32 := Scalar.addi v5 c16_i32_120
  let c0_i32_42 : BitVec 32 := 0#32
  let c1_i32_43 : BitVec 32 := 1#32
  let arg12 : BitVec 32 := Scf.iv c0_i32_42 c1_i32_43 k0_t1
  let c1_i32_119 : BitVec 32 := 1#32
  let v165 : BitVec 32 := Scalar.addi arg12 c1_i32_119
  let v167 : BitVec 32 := Scalar.addi v166 v165
  let c8_i32_121 : BitVec 32 := 8#32
  let v168 : BitVec 32 := Scalar.remsi v167 c8_i32_121
  let c512_i32_128 : BitVec 32 := 512#32
  let v175 : BitVec 32 := Scalar.muli v168 c512_i32_128
  let v188 : Index := Scalar.indexCast v175
  let c2048_139 : Index := 2048#32
  ![v188.toNat, 2048]
def k0_off17 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_69 : BitVec 32 := 16#32
  let v94 : BitVec 32 := Scalar.addi v5 c16_i32_69
  let c0_i32_42 : BitVec 32 := 0#32
  let c1_i32_43 : BitVec 32 := 1#32
  let arg12 : BitVec 32 := Scf.iv c0_i32_42 c1_i32_43 k0_t1
  let c1_i32_68 : BitVec 32 := 1#32
  let v93 : BitVec 32 := Scalar.addi arg12 c1_i32_68
  let v95 : BitVec 32 := Scalar.subi v94 v93
  let c8_i32_70 : BitVec 32 := 8#32
  let v96 : BitVec 32 := Scalar.remsi v95 c8_i32_70
  let c512_i32_71 : BitVec 32 := 512#32
  let v97 : BitVec 32 := Scalar.muli v96 c512_i32_71
  let v115 : Index := Scalar.indexCast v97
  let c0_85 : Index := 0#32
  ![v115.toNat, 0]
def k0_off18 (k0_t1 : Fin k0_t1_loop.trips) : Fin 3 → Nat :=
  let c0_i32_42 : BitVec 32 := 0#32
  let c1_i32_43 : BitVec 32 := 1#32
  let arg12 : BitVec 32 := Scf.iv c0_i32_42 c1_i32_43 k0_t1
  let c2_i32_49 : BitVec 32 := 2#32
  let v60 : BitVec 32 := Scalar.remsi arg12 c2_i32_49
  let v119 : Index := Scalar.indexCast v60
  let c0_86 : Index := 0#32
  let c0_87 : Index := 0#32
  ![v119.toNat, 0, 0]
def k0_off19 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_73 : BitVec 32 := 16#32
  let v99 : BitVec 32 := Scalar.addi v5 c16_i32_73
  let c0_i32_42 : BitVec 32 := 0#32
  let c1_i32_43 : BitVec 32 := 1#32
  let arg12 : BitVec 32 := Scf.iv c0_i32_42 c1_i32_43 k0_t1
  let c1_i32_72 : BitVec 32 := 1#32
  let v98 : BitVec 32 := Scalar.addi arg12 c1_i32_72
  let v100 : BitVec 32 := Scalar.addi v99 v98
  let c8_i32_74 : BitVec 32 := 8#32
  let v101 : BitVec 32 := Scalar.remsi v100 c8_i32_74
  let c512_i32_75 : BitVec 32 := 512#32
  let v102 : BitVec 32 := Scalar.muli v101 c512_i32_75
  let v139 : Index := Scalar.indexCast v102
  let c2048_98 : Index := 2048#32
  ![v139.toNat, 2048]
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_103 : BitVec 32 := 1#32
  let v151 : BitVec 32 := Scalar.muli v16 c1_i32_103
  let v152 : BitVec 32 := Scalar.addi c0_i32_104 v151
  v152.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_106 : BitVec 32 := 1#32
  let v153 : BitVec 32 := Scalar.muli v10 c1_i32_106
  let v154 : BitVec 32 := Scalar.addi c0_i32_107 v153
  v154.toNat
@[reducible] def k0_t2_loop : Scf.Loop 32 :=
  let c0_i32_45 : BitVec 32 := 0#32
  let c7_i32_46 : BitVec 32 := 7#32
  let v59 : BitVec 32 := Scalar.addi c0_i32_45 c7_i32_46
  let c1_i32_47 : BitVec 32 := 1#32
  ⟨c0_i32_45, v59, c1_i32_47⟩
def k0_off20 (k0_t2 : Fin k0_t2_loop.trips) : Fin 1 → Nat :=
  let c0_i32_45 : BitVec 32 := 0#32
  let c1_i32_47 : BitVec 32 := 1#32
  let arg12 : BitVec 32 := Scf.iv c0_i32_45 c1_i32_47 k0_t2
  let c1_i32_49 : BitVec 32 := 1#32
  let v60 : BitVec 32 := Scalar.addi arg12 c1_i32_49
  let c2_i32_50 : BitVec 32 := 2#32
  let v61 : BitVec 32 := Scalar.remsi v60 c2_i32_50
  ![v61.toNat]
def k0_off21 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_52 : BitVec 32 := 16#32
  let v63 : BitVec 32 := Scalar.addi v5 c16_i32_52
  let c0_i32_45 : BitVec 32 := 0#32
  let c1_i32_47 : BitVec 32 := 1#32
  let arg12 : BitVec 32 := Scf.iv c0_i32_45 c1_i32_47 k0_t2
  let c1_i32_51 : BitVec 32 := 1#32
  let v62 : BitVec 32 := Scalar.subi arg12 c1_i32_51
  let v64 : BitVec 32 := Scalar.subi v63 v62
  let c8_i32_53 : BitVec 32 := 8#32
  let v65 : BitVec 32 := Scalar.remsi v64 c8_i32_53
  let c512_i32_54 : BitVec 32 := 512#32
  let v66 : BitVec 32 := Scalar.muli v65 c512_i32_54
  let c0_i32_61 : BitVec 32 := 0#32
  ![v66.toNat, 0]
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_59 : BitVec 32 := 1#32
  let v72 : BitVec 32 := Scalar.muli v10 c1_i32_59
  let v73 : BitVec 32 := Scalar.addi c0_i32_60 v72
  v73.toNat
def k0_off22 (d0 : Dev nD) (k0_t2 : Fin k0_t2_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c16_i32_56 : BitVec 32 := 16#32
  let v68 : BitVec 32 := Scalar.addi v5 c16_i32_56
  let c0_i32_45 : BitVec 32 := 0#32
  let c1_i32_47 : BitVec 32 := 1#32
  let arg12 : BitVec 32 := Scf.iv c0_i32_45 c1_i32_47 k0_t2
  let c1_i32_55 : BitVec 32 := 1#32
  let v67 : BitVec 32 := Scalar.subi arg12 c1_i32_55
  let v69 : BitVec 32 := Scalar.addi v68 v67
  let c8_i32_57 : BitVec 32 := 8#32
  let v70 : BitVec 32 := Scalar.remsi v69 c8_i32_57
  let c512_i32_58 : BitVec 32 := 512#32
  let v71 : BitVec 32 := Scalar.muli v70 c512_i32_58
  let c2048_i32 : BitVec 32 := 2048#32
  ![v71.toNat, 2048]
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_63 : BitVec 32 := 1#32
  let v80 : BitVec 32 := Scalar.muli v16 c1_i32_63
  let v81 : BitVec 32 := Scalar.addi c0_i32_64 v80
  v81.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_4 : BitVec 32 := 8#32
  let v11 : BitVec 32 := Scalar.addi v5 c8_i32_4
  let c1_i32_5 : BitVec 32 := 1#32
  let v12 : BitVec 32 := Scalar.subi v11 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_81 : BitVec 32 := 1#32
  let v108 : BitVec 32 := Scalar.muli v16 c1_i32_81
  let v109 : BitVec 32 := Scalar.addi c0_i32_82 v108
  v109.toNat
def k0_dev10 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let v7 : BitVec 32 := Scalar.remsi v6 c8_i32_1
  let c4_i32_2 : BitVec 32 := 4#32
  let v8 : BitVec 1 := Scalar.cmpi .slt v7 c4_i32_2
  let c11_i32_3 : BitVec 32 := 11#32
  let v9 : BitVec 32 := Scalar.subi c11_i32_3 v7
  let v10 : BitVec 32 := Scalar.select v8 v7 v9
  let c1_i32_84 : BitVec 32 := 1#32
  let v110 : BitVec 32 := Scalar.muli v10 c1_i32_84
  let v111 : BitVec 32 := Scalar.addi c0_i32_85 v110
  v111.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x16384 : Shape := ⟨2, ![4096, 16384]⟩
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S16384x4096, .bf16⟩
  | .hbm, ⟨2, _⟩ => ⟨S4096x16384, .f32⟩
  | .hbm, ⟨3, _⟩ => ⟨S16384x4096, .f32⟩
  | .hbm, ⟨4, _⟩ => ⟨S4096x4096, .f32⟩
  | .hbm, ⟨5, _⟩ => ⟨S4096x4096, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Ring.lean ====
/-
# The ring all-reduce of a split product: devices, pieces of buffers, contents, schedule

Eight devices stand on a ring. Each holds a slice of the inner dimension of a product and, by two rings that turn in
opposite directions (one per half of the columns), first sums the partial products chunk by chunk (steps `0..6`), then
passes the finished chunks round (steps `7..13`). This module names what a step sends where, what the chunks hold, and
the schedule of every semaphore of the kernel under the rounds library.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The rounds of the ring's semaphores. -/
abbrev UB : Type := URounds (GSem nD τ sig) Bool
/-- The staging pipeline's rounds and the ring's. -/
abbrev UU : Type := UR sig nD τ × UB

/-- The resources: indices are rounds, levels are numbers. -/
abbrev MM (F : FTy → Type) [FloatOps F] : Type := MT nD τ sig ℕ (Elt F) ℕ UU ℕ

local notation "𝕄" => MM F

/-- Where the staging pipeline's rounds are held. -/
abbrev EP : Emb (UR sig nD τ) (MM F) := embL
/-- Where the ring's rounds are held. -/
abbrev ER : Emb UB (MM F) := embR

/-! ## The ring -/

/-- A device's place on the ring: `0..3` in order, `4..7` backwards. -/
def cyc (c : Dev nD) : ℕ := if c.val < 4 then c.val else 11 - c.val

/-- The device at place `i`. -/
def devAt (i : ℕ) : ℕ := if i % 8 < 4 then i % 8 else 11 - i % 8

/-- There is a device at every place. -/
theorem devAt_lt (i : ℕ) : devAt i < nD := by unfold devAt; show _ < 8; split <;> omega

/-- The device that `c` sends to in direction `b`: the next place for `false`, the previous one for `true`. -/
def nx (b : Bool) (c : Dev nD) : Dev nD := ⟨devAt (if b then cyc c + 7 else cyc c + 1), devAt_lt _⟩

/-- Back and then forth is nowhere. -/
theorem nx_nx (b : Bool) (c : Dev nD) : nx b (nx (!b) c) = c := by revert b c; decide
/-- Forth and then back is nowhere. -/
theorem nx_nx' (b : Bool) (c : Dev nD) : nx (!b) (nx b c) = c := by revert b c; decide
/-- The two neighbours differ. -/
theorem nx_ne (c : Dev nD) : nx true c ≠ nx false c := by revert c; decide

/-- Going one place in direction `b`, as a permutation. -/
def ring (b : Bool) : Dev nD ≃ Dev nD := ⟨nx b, nx (!b), nx_nx' b, nx_nx b⟩

/-- A place is one of eight. -/
theorem cyc_lt (c : Dev nD) : cyc c < 8 := by revert c; decide
/-- The place of the next device. -/
theorem cyc_nx_false (c : Dev nD) : cyc (nx false c) = (cyc c + 1) % 8 := by revert c; decide
/-- The place of the previous device. -/
theorem cyc_nx_true (c : Dev nD) : cyc (nx true c) = (cyc c + 7) % 8 := by revert c; decide

/-! ## Chunks and slots -/

/-- The chunk of rows that `c` sends at step `t` in direction `b`. -/
def chunk (b : Bool) (c : Dev nD) (t : ℕ) : Fin 8 :=
  ⟨(if b then cyc c + t else cyc c + 16 - t) % 8, Nat.mod_lt _ (by decide)⟩

/-- What `c` receives at step `t` is the chunk it sends at the next step. -/
theorem chunk_from (b : Bool) (c : Dev nD) {t : ℕ} (ht : t < 15) : chunk b (nx (!b) c) t = chunk b c (t + 1) := by
  apply Fin.ext; have := cyc_lt c
  cases b
  · show (cyc (nx true c) + 16 - t) % 8 = (cyc c + 16 - (t + 1)) % 8
    rw [cyc_nx_true]; omega
  · show (cyc (nx false c) + t) % 8 = (cyc c + (t + 1)) % 8
    rw [cyc_nx_false]; omega

/-- The chunk a device sends at one step is the one the next device sends at the step after. -/
theorem chunk_nx (b : Bool) (c : Dev nD) {t : ℕ} (ht : t < 15) : chunk b (nx b c) (t + 1) = chunk b c t := by
  rw [← chunk_from b (nx b c) ht, nx_nx']

/-- The chunk of eight steps ago. -/
theorem chunk_back (b : Bool) (c : Dev nD) {t : ℕ} (ht : t < 9) : chunk b c (t + 8) = chunk b c t := by
  apply Fin.ext; have := cyc_lt c
  cases b
  · show (cyc c + 16 - (t + 8)) % 8 = (cyc c + 16 - t) % 8; omega
  · show (cyc c + (t + 8)) % 8 = (cyc c + t) % 8; omega

/-- The two directions meet each other's chunks from the far side. -/
theorem chunk_other (b : Bool) (c : Dev nD) {t : ℕ} (ht : t ≤ 8) : chunk (!b) c (8 - t) = chunk b c t := by
  apply Fin.ext; have := cyc_lt c
  cases b
  · show (cyc c + (8 - t)) % 8 = (cyc c + 16 - t) % 8; omega
  · show (cyc c + 16 - (8 - t)) % 8 = (cyc c + t) % 8; omega

/-- The slot a step uses of each two-slot buffer and of each pair of semaphores. -/
def slot (t : ℕ) : Fin 2 := ⟨t % 2, Nat.mod_lt _ (by decide)⟩

/-- Two steps on, the slot is the same. -/
theorem slot_add_two (t : ℕ) : slot (t + 2) = slot t := Fin.ext (by show (t + 2) % 2 = t % 2; omega)

/-! ## The pieces of the buffers -/

/-- A tile lies in the result. -/
theorem tile_inb (k : Fin 8) (h : Bool) : ∀ a, (![512 * k.val, 2048 * h.toNat] : Fin 2 → ℕ) a + S512x2048.size a ≤ S4096x4096.size a := by
  revert k h; decide
/-- A chunk of rows lies in the left factor. -/
theorem rows_inb (k : Fin 8) : ∀ a, (![512 * k.val, 0] : Fin 2 → ℕ) a + S512x2048.size a ≤ S4096x2048.size a := by
  revert k; decide
/-- A slot lies in its two-slot buffer. -/
theorem slab_inb (s : Fin 2) : ∀ a, (![s.val, 0, 0] : Fin 3 → ℕ) a + S1x512x2048.size a ≤ S2x512x2048.size a := by
  revert s; decide
/-- A half of the columns lies in the right factor. -/
theorem half_inb (h : Bool) : ∀ a, (![0, 2048 * h.toNat] : Fin 2 → ℕ) a + S2048x2048.size a ≤ S2048x4096.size a := by
  revert h; decide

/-- The result's buffer. -/
abbrev oM : Memref sig .tc .vmem S4096x4096 .bf16 := Memref.whole cc0_stg1_0
/-- The right factor's buffer. -/
abbrev bM : Memref sig .tc .vmem S2048x4096 .bf16 := Memref.whole cc0_stg0_0
/-- The left factor. -/
abbrev aM : Memref sig .tc .hbm S4096x2048 .bf16 := Memref.whole main_arg0
/-- The landing buffer of direction `b`. -/
abbrev cM : Bool → Memref sig .tc .vmem S2x512x2048 .bf16
  | false => Memref.whole cc0_scratch1
  | true => Memref.whole cc0_scratch2
/-- The buffer of the two row blocks of the left factor. -/
abbrev wM : Memref sig .tc .vmem S2x512x2048 .bf16 := Memref.whole cc0_scratch0

/-- Where tile `(k, h)` lies in the result. -/
abbrev tileR (k : Fin 8) (h : Bool) : Rect S4096x4096 := Rect.unit (s := S4096x4096) ![512 * k.val, 2048 * h.toNat] S512x2048.size (tile_inb k h)
/-- Where chunk `k` lies in the left factor. -/
abbrev rowsR (k : Fin 8) : Rect S4096x2048 := Rect.unit (s := S4096x2048) ![512 * k.val, 0] S512x2048.size (rows_inb k)
/-- Where slot `s` lies in a two-slot buffer. -/
abbrev slabR (s : Fin 2) : Rect S2x512x2048 := Rect.unit (s := S2x512x2048) ![s.val, 0, 0] S1x512x2048.size (slab_inb s)
/-- Where half `h` lies in the right factor. -/
abbrev halfR (h : Bool) : Rect S2048x4096 := Rect.unit (s := S2048x4096) ![0, 2048 * h.toNat] S2048x2048.size (half_inb h)

/-- Chunk `k` of the result, half `h` of its columns. -/
abbrev tileM (k : Fin 8) (h : Bool) : Memref sig .tc .vmem S512x2048 .bf16 := oM.slice (tileR k h) (fun _ => rfl)
/-- Chunk `k` of the left factor's rows. -/
abbrev rowsM (k : Fin 8) : Memref sig .tc .hbm S512x2048 .bf16 := aM.slice (rowsR k) (fun _ => rfl)
/-- Slot `s` of a two-slot buffer. -/
abbrev slabM (M : Memref sig .tc .vmem S2x512x2048 .bf16) (s : Fin 2) : Memref sig .tc .vmem S512x2048 .bf16 :=
  (M.slice (slabR s) (fun _ => rfl)).squeeze S512x2048 squeezes_S1x512x2048_S512x2048

/-- A block as the one-slot array a load of its slot reads. -/
def unsq {Val : EltTy → Type} (X : S512x2048.Idx → Val .bf16) : S1x512x2048.Idx → Val .bf16 :=
  fun j => X (Shape.reshapeEquiv (squeezes_S1x512x2048_S512x2048.numel_eq).symm j)

/-! ## The semaphores -/

/-- The barrier semaphore. -/
abbrev barS : Sem sig := (SemArray.scalar (sig.barrier 0 rfl) : Sems sig S_).sem
/-- The step semaphore. -/
abbrev stepS : Sem sig := cc0_scratch8.sem
/-- The copy semaphores of the left factor's two slots. -/
abbrev qA : Fin 2 → DmaSem sig | 0 => 2 | 1 => 3
/-- The send semaphores of direction `b`, slot by slot. -/
abbrev qS : Bool → Fin 2 → DmaSem sig
  | false, 0 => 4 | false, 1 => 5 | true, 0 => 8 | true, 1 => 9
/-- The receive semaphores of direction `b`, slot by slot. -/
abbrev qR : Bool → Fin 2 → DmaSem sig
  | false, 0 => 6 | false, 1 => 7 | true, 0 => 10 | true, 1 => 11

/-- Device `c`'s barrier. -/
abbrev barC (c : Dev nD) : GSem nD τ sig := ((c : Thread nD τ), .reg barS)
/-- Device `c`'s step semaphore. -/
abbrev stepC (c : Dev nD) : GSem nD τ sig := ((c : Thread nD τ), .reg stepS)
/-- Device `c`'s copy semaphore of slot `s`. -/
abbrev aC (c : Dev nD) (s : Fin 2) : GSem nD τ sig := ((c : Thread nD τ), .dma (qA s))
/-- Device `c`'s send semaphore of direction `b` and slot `s`. -/
abbrev sC (b : Bool) (c : Dev nD) (s : Fin 2) : GSem nD τ sig := ((c : Thread nD τ), .dma (qS b s))
/-- Device `c`'s receive semaphore of direction `b` and slot `s`. -/
abbrev rC (b : Bool) (c : Dev nD) (s : Fin 2) : GSem nD τ sig := ((c : Thread nD τ), .dma (qR b s))

/-- What a transfer of one block credits. -/
def N : ℕ := (tileM 0 false).view.dmaCredit
/-- A transfer credits more than nothing. -/
theorem N_pos : 0 < N := View.dmaCredit_pos _ (Shape.numel_pos fun a => by fin_cases a <;> exact Nat.succ_pos _)
/-- What a transfer of a tile credits. -/
theorem credit_tile (k : Fin 8) (h : Bool) : (tileM k h).view.dmaCredit = N := rfl
/-- What a transfer into a landing slot credits. -/
theorem credit_slab (b : Bool) (s : Fin 2) : (slabM (cM b) s).view.dmaCredit = N := by cases b <;> rfl
/-- What a copy of rows credits. -/
theorem credit_work (s : Fin 2) : (slabM wM s).view.dmaCredit = N := rfl
attribute [irreducible] N

/-! ## Contents -/

variable (m : (ℓ : Loc nD τ sig) → Buf (Elt F) ℓ)

/-- Chunk `k` of the rows of device `c`'s left factor. -/
def rowsOf (c : Dev nD) (k : Fin 8) : S512x2048.Idx → Elt F .bf16 := (rowsM k).view.read (Elt F) (m ((c : Thread nD τ).loc main_arg0))

/-- Device `c`'s right factor as it lies in its staging buffer. -/
def bstg (c : Dev nD) : (cc0_stg0_0 : Ref sig .tc).ty.Contents (Elt F) :=
  (win0_0.blk (0 : Fin 1)).view.read (Elt F) (m ((c : Thread nD τ).loc main_arg1))

/-- Half `h` of its columns. -/
def halfOf (c : Dev nD) (h : Bool) : S2048x2048.Idx → Elt F .bf16 := bM.view.readAt (Elt F) (halfR h).toLoadRect (bstg m c)

/-- Device `c`'s partial product: rows of chunk `k`, half `h` of the columns. -/
def part (c : Dev nD) (k : Fin 8) (h : Bool) : S512x2048.Idx → Elt F .bf16 := k0_pay10 (unsq (rowsOf m c k)) (halfOf m c h)

/-- What device `c` sends in direction `b` at step `t`: its own partial product at first, then what came in with its own
    partial product added, and from step `7` on what came in. -/
def val (b : Bool) : ℕ → Dev nD → S512x2048.Idx → Elt F .bf16
  | 0, c => part m c (chunk b c 0) b
  | t + 1, c => if t < 7 then k0_pay1 (part m c (chunk b c (t + 1)) b) (unsq (val b t (nx (!b) c))) else val b t (nx (!b) c)

/-- At first a device sends its own partial product. -/
theorem val_zero (b : Bool) (c : Dev nD) : val m b 0 c = part m c (chunk b c 0) b := rfl
/-- In each of the next seven steps it sends what came in with its own partial product added. -/
theorem val_add (b : Bool) (c : Dev nD) {t : ℕ} (ht : t < 7) :
    val m b (t + 1) c = k0_pay1 (part m c (chunk b c (t + 1)) b) (unsq (val m b t (nx (!b) c))) := if_pos ht
/-- Afterwards it sends what came in. -/
theorem val_pass (b : Bool) (c : Dev nD) {t : ℕ} (ht : ¬ t < 7) : val m b (t + 1) c = val m b t (nx (!b) c) := if_neg ht

/-! ## What is held -/

/-- Tile `(k, h)` of device `c`'s result holding `X`. -/
abbrev tile (c : Dev nD) (k : Fin 8) (h : Bool) (X : S512x2048.Idx → Elt F .bf16) : sProp 𝕄 := owns (c : Thread nD τ) (tileM k h) fullShare X
/-- Slot `s` of a two-slot buffer of device `c` holding `X`. -/
abbrev slab (c : Dev nD) (M : Memref sig .tc .vmem S2x512x2048 .bf16) (s : Fin 2) (X : S512x2048.Idx → Elt F .bf16) : sProp 𝕄 :=
  owns (c : Thread nD τ) (slabM M s) fullShare X
/-- Chunk `k` of device `c`'s left factor, unchanged. -/
abbrev rows (c : Dev nD) (k : Fin 8) : sProp 𝕄 := owns (c : Thread nD τ) (rowsM k) fullShare (rowsOf m c k)

/-- The place where device `c` receives at step `t` in direction `b`, holding `X`: a slot of the landing buffer while
    sums are formed, a tile of the result afterwards. -/
def landing (b : Bool) (c : Dev nD) (t : ℕ) (X : S512x2048.Idx → Elt F .bf16) : sProp 𝕄 :=
  if t < 7 then slab c (cM b) (slot t) X else tile c (chunk b c (t + 1)) b X

instance landing_storable (b : Bool) (c : Dev nD) (t : ℕ) (X : S512x2048.Idx → Elt F .bf16) :
    BI.Storable (upEmb : UEmb _ 𝕄) (landing b c t X) := by unfold landing; split <;> infer_instance

/-- Leave for the sender to write device `c`'s receiving place of step `t`. -/
def give (b : Bool) (c : Dev nD) (t : ℕ) : sProp 𝕄 :=
  if t < 14 then iprop((∃ X, landing b c t X) ∗ reached ER (rC b c (slot t)) (t / 2)) else iprop(emp)

instance give_storable (b : Bool) (c : Dev nD) (t : ℕ) : BI.Storable (upEmb : UEmb _ 𝕄) (give (F := F) b c t) := by
  unfold give; split <;> infer_instance

/-- What comes back to the sender when its transfer has left: the tile it sent. -/
def sentPay (b : Bool) (c : Dev nD) (t : ℕ) : sProp 𝕄 := tile c (chunk b c t) b (val m b t c)
/-- What a transfer brings: the sender's contents in the receiving place, and that the sender is at that step. -/
def recvPay (b : Bool) (c : Dev nD) (t : ℕ) : sProp 𝕄 :=
  iprop(landing b c t (val m b t (nx (!b) c)) ∗ reached ER (stepC (nx (!b) c)) t)
/-- The chunk of rows that round `r` of slot `s` brings in. -/
def workChunk (c : Dev nD) : Fin 2 → ℕ → Fin 8
  | 0, r => chunk true c r
  | 1, r => chunk false c (r + 1)
/-- A local copy brings the rows into the slot and gives the rows back. -/
def copyPay (c : Dev nD) (s : Fin 2) (r : ℕ) : sProp 𝕄 :=
  iprop(slab c wM s (rowsOf m c (workChunk c s r)) ∗ rows m c (workChunk c s r))

instance sentPay_storable (b : Bool) (c : Dev nD) (t : ℕ) : BI.Storable (upEmb : UEmb _ 𝕄) (sentPay m b c t) := by unfold sentPay; infer_instance
instance recvPay_storable (b : Bool) (c : Dev nD) (t : ℕ) : BI.Storable (upEmb : UEmb _ 𝕄) (recvPay m b c t) := by unfold recvPay; infer_instance
instance copyPay_storable (c : Dev nD) (s : Fin 2) (r : ℕ) : BI.Storable (upEmb : UEmb _ 𝕄) (copyPay m c s r) := by unfold copyPay; infer_instance

/-! ## The schedule -/

/-- How many rounds of duties a semaphore has. -/
def roundsOf : SemLoc sig → ℕ
  | .reg s => if s = barS then 1 else 14
  | .dma 0 => 0
  | .dma 1 => 0
  | .dma 2 => 4
  | .dma 3 => 4
  | .dma _ => 7

/-- The payments of one round: two for a regular semaphore, one for a transfer's. -/
def dutiesOf : SemLoc sig → Finset Bool
  | .reg _ => Finset.univ
  | .dma _ => {false}

/-- What a payment of round `r` hands to device `c`. -/
def payOf (c : Dev nD) : SemLoc sig → ℕ → Bool → sProp 𝕄
  | .reg s, r, d => give d (nx d c) (if s = barS then 0 else r + 1)
  | .dma 2, r, _ => copyPay m c 0 r
  | .dma 3, r, _ => copyPay m c 1 r
  | .dma 4, r, _ => sentPay m false c (2 * r)
  | .dma 5, r, _ => sentPay m false c (2 * r + 1)
  | .dma 6, r, _ => recvPay m false c (2 * r)
  | .dma 7, r, _ => recvPay m false c (2 * r + 1)
  | .dma 8, r, _ => sentPay m true c (2 * r)
  | .dma 9, r, _ => sentPay m true c (2 * r + 1)
  | .dma 10, r, _ => recvPay m true c (2 * r)
  | .dma 11, r, _ => recvPay m true c (2 * r + 1)
  | .dma _, _, _ => iprop(emp)

/-- How much one payment is. -/
def amountOf : SemLoc sig → ℕ
  | .reg _ => 1
  | .dma _ => N

/-- Every payment is more than nothing. -/
theorem amountOf_pos : ∀ sm, 0 < amountOf sm
  | .reg _ => Nat.one_pos
  | .dma _ => N_pos

instance payOf_storable (c : Dev nD) (sm : SemLoc sig) (r : ℕ) (d : Bool) : BI.Storable (upEmb : UEmb _ 𝕄) (payOf m c sm r d) := by
  unfold payOf; split <;> infer_instance

/-- The schedule of every semaphore: which payments a round has, of how much, and what they hand over. -/
def rd : Rounds.Schedule (GSem nD τ sig) Bool 𝕄 where
  duties g r := if g.1.2 = .tc ∧ r < roundsOf g.2 then dutiesOf g.2 else ∅
  unitless _ := False
  amount g _ _ := amountOf g.2
  payload g r d := payOf m g.1.1 g.2 r d
  amount_pos g _ _ _ := amountOf_pos g.2

instance rd_storable (g : GSem nD τ sig) (r : ℕ) (d : Bool) : BI.Storable (upEmb : UEmb _ 𝕄) ((rd m).payload g r d) := by
  show BI.Storable upEmb (payOf m g.1.1 g.2 r d); infer_instance

section Sched
variable (c : Dev nD) (b d : Bool) (s : Fin 2)

/-- A send semaphore has seven rounds. -/
theorem rounds_S : roundsOf (.dma (qS b s)) = 7 := by cases b <;> fin_cases s <;> rfl
/-- A receive semaphore has seven rounds. -/
theorem rounds_R : roundsOf (.dma (qR b s)) = 7 := by cases b <;> fin_cases s <;> rfl
/-- A copy semaphore has four rounds. -/
theorem rounds_A : roundsOf (.dma (qA s)) = 4 := by fin_cases s <;> rfl
/-- The barrier has one round. -/
theorem rounds_bar : roundsOf (.reg barS) = 1 := by show (if barS = barS then 1 else 14) = 1; exact if_pos rfl
/-- The step semaphore has fourteen rounds. -/
theorem rounds_step : roundsOf (.reg stepS) = 14 := by show (if stepS = barS then 1 else 14) = 14; exact if_neg (by decide)

/-- The payments of a round that there is. -/
theorem duties_of {sm : SemLoc sig} {r : ℕ} (h : r < roundsOf sm) : (rd m).duties ((c : Thread nD τ), sm) r = dutiesOf sm := if_pos ⟨rfl, h⟩
/-- After the last round nothing is to be paid. -/
theorem duties_end (g : GSem nD τ sig) (R : ℕ) (h : roundsOf g.2 ≤ R) : ∀ r, R ≤ r → (rd m).duties g r = ∅ :=
  fun r hr => if_neg fun h' => by omega
/-- A transfer's round has its one payment. -/
theorem mem_dma {q : DmaSem sig} {r : ℕ} (h : r < roundsOf (.dma q)) : false ∈ (rd m).duties ((c : Thread nD τ), .dma q) r := by
  rw [duties_of m c h]; exact Finset.mem_singleton_self _
/-- A regular semaphore's round has a payment of either neighbour. -/
theorem mem_reg {q : Sem sig} {r : ℕ} (h : r < roundsOf (.reg q)) : d ∈ (rd m).duties ((c : Thread nD τ), .reg q) r := by
  rw [duties_of m c h]; exact Finset.mem_univ _

/-- A transfer's round expects one transfer's credit. -/
theorem expect_dma {q : DmaSem sig} {r : ℕ} (h : r < roundsOf (.dma q)) : (rd m).expect ((c : Thread nD τ), .dma q) r = N := by
  unfold Schedule.expect Schedule.amountOf
  rw [duties_of m c h]; exact Finset.sum_singleton _ _
/-- A regular semaphore's round expects two signals. -/
theorem expect_reg {q : Sem sig} {r : ℕ} (h : r < roundsOf (.reg q)) : (rd m).expect ((c : Thread nD τ), .reg q) r = 2 := by
  unfold Schedule.expect Schedule.amountOf
  rw [duties_of m c h]; rfl

/-- What all of a round of a transfer's semaphore hands over. -/
theorem rest_dma {q : DmaSem sig} {r : ℕ} (h : r < roundsOf (.dma q)) :
    bigSep ((rd m).duties ((c : Thread nD τ), .dma q) r \ ∅) (fun d => (rd m).payload ((c : Thread nD τ), .dma q) r d) = payOf m c (.dma q) r false := by
  rw [Finset.sdiff_empty, duties_of m c h]; exact bigSep_singleton
/-- What all of a round of a regular semaphore hands over: both neighbours' leave. -/
theorem rest_reg {q : Sem sig} {r : ℕ} (h : r < roundsOf (.reg q)) :
    bigSep ((rd m).duties ((c : Thread nD τ), .reg q) r \ ∅) (fun d => (rd m).payload ((c : Thread nD τ), .reg q) r d)
      = iprop(payOf m c (.reg q) r false ∗ payOf m c (.reg q) r true) := by
  rw [Finset.sdiff_empty, duties_of m c h]
  exact bigSep_univ_eq_bigSepL [false, true] (by decide) (by decide) _

/-- What a send semaphore hands over. -/
theorem pay_S (r : ℕ) : payOf m c (.dma (qS b s)) r d = sentPay m b c (2 * r + s.val) := by cases b <;> fin_cases s <;> rfl
/-- What a receive semaphore hands over. -/
theorem pay_R (r : ℕ) : payOf m c (.dma (qR b s)) r d = recvPay m b c (2 * r + s.val) := by cases b <;> fin_cases s <;> rfl
/-- What a copy semaphore hands over. -/
theorem pay_A (r : ℕ) : payOf m c (.dma (qA s)) r d = copyPay m c s r := by fin_cases s <;> rfl
/-- What a signal of the barrier hands over. -/
theorem pay_bar (r : ℕ) : payOf m c (.reg barS) r d = give d (nx d c) 0 := by
  show give d (nx d c) (if barS = barS then 0 else r + 1) = _; rw [if_pos rfl]
/-- What a step signal hands over. -/
theorem pay_step (r : ℕ) : payOf m c (.reg stepS) r d = give d (nx d c) (r + 1) := by
  show give d (nx d c) (if stepS = barS then 0 else r + 1) = _; rw [if_neg (by decide)]

/-- What the send semaphore of step `t` hands over. -/
theorem pay_S_step (t : ℕ) : payOf m c (.dma (qS b (slot t))) (t / 2) d = sentPay m b c t := by
  rw [pay_S]; congr 1; show 2 * (t / 2) + t % 2 = t; omega
/-- What the receive semaphore of step `t` hands over. -/
theorem pay_R_step (t : ℕ) : payOf m c (.dma (qR b (slot t))) (t / 2) d = recvPay m b c t := by
  rw [pay_R]; congr 1; show 2 * (t / 2) + t % 2 = t; omega

end Sched

end Cert.Ring

end
-- ==== Proof.Steps.lean ====
/-
# The rules of one step

What a device owes and at which level it waits; the marks, tokens and credits it carries from step to step; and a rule
for every kind of operation of the kernel, stated at the schedule of `Ring`: a transfer to a neighbour, a copy of row
blocks, a wait for a transfer, a signal, a wait for both neighbours, and the loads and stores of whole tiles.
-/
module

public import proofs.«01_k».proof.Proof.Ring
public import Mathlib.Algebra.BigOperators.Intervals

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- No loop needs a variant. -/
abbrev 𝒱₀ : Variants := Variants.none

/-! ## Levels -/

/-- A TensorCore's semaphore may be waited for in any round. -/
def L (g : GSem nD τ sig) : Finset ℕ := if g.1.2 = .tc then Finset.range 14 else ∅

/-- Levels: the barrier, then step by step the receive semaphores followed by the step semaphore; everything else that a
    device pays itself is at the bottom. -/
def lv (g : GSem nD τ sig) (i : ℕ) : ℕ :=
  match g.2 with
  | .reg s => if s = barS then 1 else 3 * i + 3
  | .dma 6 => 6 * i + 2
  | .dma 7 => 6 * i + 5
  | .dma 10 => 6 * i + 2
  | .dma 11 => 6 * i + 5
  | .dma _ => 0

/-- Only the tensor cores' cells have indices. -/
theorem L_of_ne (g : GSem nD τ sig) (h : g.1.2 ≠ .tc) : L g = ∅ := if_neg h
/-- The numbers below `14` are among the indices of a tensor core's cell. -/
theorem mem_L (c : Dev nD) (sm : SemLoc sig) {i : ℕ} (h : i < 14) : i ∈ L ((c : Thread nD τ), sm) := by
  unfold L; rw [if_pos rfl]; exact Finset.mem_range.mpr h

/-- The level of the barrier. -/
theorem lv_bar (c : Dev nD) (i : ℕ) : lv (barC c) i = 1 := by
  show (if barS = barS then 1 else 3 * i + 3) = 1; exact if_pos rfl
/-- The level of a step signal. -/
theorem lv_step (c : Dev nD) (i : ℕ) : lv (stepC c) i = 3 * i + 3 := by
  show (if stepS = barS then 1 else 3 * i + 3) = 3 * i + 3; exact if_neg (by decide)
/-- A send semaphore is at the bottom. -/
theorem lv_S (b : Bool) (c : Dev nD) (s : Fin 2) (i : ℕ) : lv (sC b c s) i = 0 := by cases b <;> fin_cases s <;> rfl
/-- A copy semaphore is at the bottom. -/
theorem lv_A (c : Dev nD) (s : Fin 2) (i : ℕ) : lv (aC c s) i = 0 := by fin_cases s <;> rfl
/-- The level of an arrival, by slot and round. -/
theorem lv_R (b : Bool) (c : Dev nD) (s : Fin 2) (i : ℕ) : lv (rC b c s) i = 6 * i + 3 * s.val + 2 := by
  cases b <;> fin_cases s <;> rfl
/-- The level of the arrival of step `t`. -/
theorem lv_R_step (b : Bool) (c : Dev nD) (t : ℕ) : lv (rC b c (slot t)) (t / 2) = 3 * t + 2 := by
  rw [lv_R]; show 6 * (t / 2) + 3 * (t % 2) + 2 = _; omega

/-- Everything owed lies above level `n`. -/
def Above (n : ℕ) (O : CellTallies nD τ sig ℕ) : Prop := ∀ g i, 0 < O g i → i ∈ L g ∧ n < lv g i

/-- Owing nothing lies above everything. -/
theorem Above.zero (n : ℕ) : Above n 0 := fun g i h => absurd h (Nat.lt_irrefl 0)
/-- Two debts above a level lie above it together. -/
theorem Above.add {n : ℕ} {O P : CellTallies nD τ sig ℕ} (hO : Above n O) (hP : Above n P) : Above n (O + P) := fun g i h => by
  rw [Pi.add_apply, Finsupp.add_apply] at h
  by_cases h0 : 0 < O g i
  · exact hO g i h0
  · exact hP g i (by omega)
/-- A debt to a cell of a higher level lies above. -/
theorem Above.tally {n : ℕ} (c : Dev nD) (sm : SemLoc sig) {i k : ℕ} (hi : i < 14) (hn : n < lv ((c : Thread nD τ), sm) i) :
    Above n (tallyAt ((c : Thread nD τ), sm) i k) := fun g j h => by
  rw [tallyAt_apply] at h
  by_cases h' : g = ((c : Thread nD τ), sm) ∧ j = i
  · rw [h'.1, h'.2]; exact ⟨mem_L c sm hi, hn⟩
  · rw [if_neg h'] at h; exact absurd h (Nat.lt_irrefl 0)
/-- What lies above a level lies above a lower one. -/
theorem Above.mono {n k : ℕ} {O : CellTallies nD τ sig ℕ} (h : Above n O) (hk : k ≤ n) : Above k O :=
  fun g i hp => ⟨(h g i hp).1, lt_of_le_of_lt hk (h g i hp).2⟩

/-- Owing only what lies above a cell's level, a device may wait there. -/
theorem mayWait_above (c : Dev nD) (sm : SemLoc sig) {i : ℕ} {O : CellTallies nD τ sig ℕ} (hi : i < 14)
    (h : Above (lv ((c : Thread nD τ), sm) i) O) : (levAts L lv : sProp 𝕄) ⊢ MayWait (c : Thread nD τ) sm i O :=
  MayOwe.of_cut (L := L) (lev := lv) (lv ((c : Thread nD τ), sm) i)
    (fun p hp => by rw [Finset.mem_singleton.mp hp]; exact mem_L c sm hi) (fun g j hg => (h g j hg).1)
    (fun p hp => by rw [Finset.mem_singleton.mp hp]) (fun g j hg => (h g j hg).2)

/-! ## What a device owes -/

/-- The two signals of step `u`. -/
def sigOwe (c : Dev nD) (u : ℕ) : CellTallies nD τ sig ℕ := tallyAt (stepC (nx false c)) u 1 + tallyAt (stepC (nx true c)) u 1
/-- What one step makes a device pay its neighbours: a block each, and a signal each. -/
def stepOwe (c : Dev nD) (u : ℕ) : CellTallies nD τ sig ℕ :=
  sigOwe c u + tallyAt (rC true (nx true c) (slot u)) (u / 2) N + tallyAt (rC false (nx false c) (slot u)) (u / 2) N
/-- What is owed from step `t` on. -/
def Ow (c : Dev nD) (t : ℕ) : CellTallies nD τ sig ℕ := ∑ u ∈ Finset.Ico t 14, stepOwe c u

/-- What is owed from step `t` on is what step `t` makes and what is owed from the next on. -/
theorem Ow_step (c : Dev nD) {t : ℕ} (ht : t < 14) :
    Ow c t = Ow c (t + 1) + sigOwe c t + tallyAt (rC true (nx true c) (slot t)) (t / 2) N + tallyAt (rC false (nx false c) (slot t)) (t / 2) N := by
  unfold Ow; rw [Finset.sum_eq_sum_Ico_succ_bot ht, stepOwe, add_comm]; simp only [add_assoc]
/-- At the end nothing is owed. -/
theorem Ow_end (c : Dev nD) : Ow c 14 = 0 := by unfold Ow; rw [Finset.Ico_self, Finset.sum_empty]

/-- The signals of step `u` lie above level `3 * u + 2`. -/
theorem above_sigOwe (c : Dev nD) {u : ℕ} (hu : u < 14) : Above (3 * u + 2) (sigOwe c u) :=
  (Above.tally _ _ hu (by rw [lv_step]; omega)).add (Above.tally _ _ hu (by rw [lv_step]; omega))
/-- All that is owed for step `u` lies above level `3 * u + 1`. -/
theorem above_stepOwe (c : Dev nD) {u : ℕ} (hu : u < 14) : Above (3 * u + 1) (stepOwe c u) :=
  (((above_sigOwe c hu).mono (by omega)).add (Above.tally _ _ (by omega) (by rw [lv_R_step]; omega))).add
    (Above.tally _ _ (by omega) (by rw [lv_R_step]; omega))
/-- All that is owed from step `t` on lies above level `3 * t + 1`. -/
theorem above_Ow (c : Dev nD) (t : ℕ) : Above (3 * t + 1) (Ow c t) := by
  unfold Ow
  refine Finset.sum_induction _ (Above (3 * t + 1)) (fun _ _ => Above.add) (Above.zero _) fun u hu => ?_
  rw [Finset.mem_Ico] at hu
  exact (above_stepOwe c hu.2).mono (by omega)

/-! ## Carried from step to step -/

variable (m : (ℓ : Loc nD τ sig) → Buf (Elt F) ℓ)

/-- Device `c` owes `O`. -/
def ow (c : Dev nD) (O : CellTallies nD τ sig ℕ) : sProp 𝕄 := iprop(∃ W, owes (c : Thread nD τ) O W)
/-- The invariant of a cell under the schedule. -/
def cinv (g : GSem nD τ sig) : sProp 𝕄 := iprop(∃ κ, cellInv ER (rd m) κ g)
instance cinv_persistent (g : GSem nD τ sig) : BI.Persistent (cinv m g) := by unfold cinv; infer_instance
/-- A cell stands before round `r`. -/
def st (g : GSem nD τ sig) (r : ℕ) : sProp 𝕄 := iprop(atPos ER g r ∅ 0 ∗ reached ER g r)

/-- The program logic's judgement for device `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {m}
variable {α : Type} {Q : α → sProp (MM F)}

/-- A transfer pays what one block credits. -/
theorem amount_dma (c : Dev nD) (q : DmaSem sig) (r : ℕ) (d : Bool) : (rd m).amount ((c : Thread nD τ), .dma q) r d = N := rfl
/-- A signal pays one. -/
theorem amount_reg (c : Dev nD) (q : Sem sig) (r : ℕ) (d : Bool) : (rd m).amount ((c : Thread nD τ), .reg q) r d = 1 := rfl

/-- A wait for a transfer that has been paid for: what it hands over, and the next round. -/
theorem wait_dma (c : Dev nD) {q sm : DmaSem sig} (hq : sm = q) {r : ℕ} (hr : r < roundsOf (.dma q)) (h14 : r < 14) {P : sProp 𝕄}
    (hP : payOf m c (.dma q) r false = P)
    {O : CellTallies nD τ sig ℕ} (hO : Above (lv ((c : Thread nD τ), .dma q) r) O)
    {sp sp' : Space} {s s' : Shape} {e e' : EltTy} {src : Memref sig .tc sp' s' e'} {κ' : Kind} {dst : Memref sig κ' sp s e}
    (hN : dst.view.dmaCredit = N)
    {hsrc : src.view.WordExact} {hdst : dst.view.WordExact} {k : PUnit → Prog (TpuEff nD τ sig (Elt F) Λ₀ .tc) α} :
    iprop(cinv m ((c : Thread nD τ), .dma q) ∗ cred (tallyAt ((c : Thread nD τ), .dma q) r N) ∗ ow c O ∗ levAts L lv ∗ st ((c : Thread nD τ), .dma q) r)
      ⊢ iprop((iprop(ow c O ∗ st ((c : Thread nD τ), .dma q) (r + 1) ∗ P) -∗ runs c (k ⟨⟩) Q)
        -∗ runs c (.op (.waitDma2 sm src dst hsrc hdst) k) Q) := by
  subst hq; subst hP
  have hk : 0 + dst.view.dmaCredit = (rd m).expect ((c : Thread nD τ), .dma sm) r := by rw [Nat.zero_add, expect_dma m c hr, hN]
  unfold cinv ow st
  rw [← hN]
  iintro ⟨⟨%κ, #HI⟩, Hc, ⟨%W, HO⟩, #Hlev, Hat, -⟩ Hk
  iapply (Rounds.wp_wait_rest_token 𝒱₀ ER (rd m) (c : Thread nD τ) none (κ := κ)
      (wpE_waitDma2_eq 𝒱₀ (c : Thread nD τ) none Set.univ) (Set.mem_univ _) r (O := O) (W := W) (R := r) (m := 0) (T := ∅)
      hk) $$ [Hc HO Hat]
  · isplitr; · iexact HI
    isplitl [Hc]; · iexact Hc
    isplitl [HO]; · iexact HO
    isplitr; · iapply (mayWait_above c _ h14 hO); iexact Hlev
    iexact Hat
  iintro ⟨HO, Hat, #Hr, Hpay⟩
  iapply Hk
  isplitl [HO]; · iexists _; iexact HO
  isplitl [Hat]
  · isplitl [Hat]; · iexact Hat
    iexact Hr
  iapply (Entails.of_eq (rest_dma m c hr)); iexact Hpay

/-- A wait for both neighbours' signals. -/
theorem wait_reg (c : Dev nD) (q : Sem sig) {r : ℕ} (hr : r < roundsOf (.reg q)) (h14 : r < 14) {j : ℕ}
    (hP : ∀ d, payOf m c (.reg q) r d = give d (nx d c) j)
    {O : CellTallies nD τ sig ℕ} (hO : Above (lv ((c : Thread nD τ), .reg q) r) O) {n : ℕ} (hn : n = 2)
    {k : PUnit → Prog (TpuEff nD τ sig (Elt F) Λ₀ .tc) α} :
    iprop(cinv m ((c : Thread nD τ), .reg q) ∗ cred (tallyAt ((c : Thread nD τ), .reg q) r 2) ∗ ow c O ∗ levAts L lv ∗ st ((c : Thread nD τ), .reg q) r)
      ⊢ iprop((iprop(ow c O ∗ st ((c : Thread nD τ), .reg q) (r + 1) ∗ give false (nx false c) j ∗ give true (nx true c) j) -∗ runs c (k ⟨⟩) Q)
        -∗ runs c (.op (.semWait q n) k) Q) := by
  subst hn
  have hk : 0 + 2 = (rd m).expect ((c : Thread nD τ), .reg q) r := by rw [Nat.zero_add, expect_reg m c hr]
  unfold cinv ow st
  iintro ⟨⟨%κ, #HI⟩, Hc, ⟨%W, HO⟩, #Hlev, Hat, -⟩ Hk
  iapply (Rounds.wp_wait_rest_token 𝒱₀ ER (rd m) (c : Thread nD τ) none (κ := κ)
      (wpE_semWait_eq 𝒱₀ (c : Thread nD τ) none Set.univ) (Set.mem_univ _) r (O := O) (W := W) (R := r) (m := 0) (T := ∅)
      hk) $$ [Hc HO Hat]
  · isplitr; · iexact HI
    isplitl [Hc]; · iexact Hc
    isplitl [HO]; · iexact HO
    isplitr; · iapply (mayWait_above c _ h14 hO); iexact Hlev
    iexact Hat
  iintro ⟨HO, Hat, #Hr, Hpay⟩
  iapply Hk
  isplitl [HO]; · iexists _; iexact HO
  isplitl [Hat]
  · isplitl [Hat]; · iexact Hat
    iexact Hr
  rw [← hP false, ← hP true]
  iapply (Entails.of_eq (rest_reg m c hr)); iexact Hpay

/-- A signal to the neighbour that sends to `c` in direction `d`: leave to write where `c` receives. -/
theorem signal_reg (c n : Dev nD) (d : Bool) (hn : n = nx (!d) c) (q : Sem sig) {r : ℕ} (hr : r < roundsOf (.reg q)) {j : ℕ}
    (hP : payOf m (nx (!d) c) (.reg q) r d = give d c j)
    {O₀ O : CellTallies nD τ sig ℕ} (hO : O₀ = O + tallyAt ((nx (!d) c : Thread nD τ), .reg q) r 1) {w : ℕ} (hw : w = 1)
    {k : PUnit → Prog (TpuEff nD τ sig (Elt F) Λ₀ .tc) α} :
    iprop(cinv m ((nx (!d) c : Thread nD τ), .reg q) ∗ ow c O₀ ∗ dutyTok ER ((nx (!d) c : Thread nD τ), .reg q) r d ∗ give d c j
        ∗ reached ER ((nx (!d) c : Thread nD τ), .reg q) r)
      ⊢ iprop((ow c O -∗ runs c (k ⟨⟩) Q) -∗ runs c (.op (.semSignal ((n, .tc) : Thread nD τ) q w) k) Q) := by
  subst hn; subst hw
  unfold cinv ow
  iintro ⟨⟨%κ, #HI⟩, ⟨%W, HO⟩, Ht, Hg, Hr⟩ Hk
  iapply (Rounds.wp_signal 𝒱₀ ER (rd m) (c : Thread nD τ) none (dst := (nx (!d) c : Thread nD τ)) (κ := κ)
      (d := d) (mem_reg m _ d hr) (amount_reg (nx (!d) c) q r d) r O hO) $$ [HO Ht Hg Hr]
  · isplitr; · iexact HI
    isplitl [HO]; · iexact HO
    isplitl [Ht]; · iexact Ht
    isplitl [Hg]
    · rw [show (rd m).payload ((nx (!d) c : Thread nD τ), .reg q) r d = give d c j from hP]; iexact Hg
    iexact Hr
  iintro HO; iapply Hk; iexists _; iexact HO

/-- A transfer to the neighbour in direction `b`: the tile goes out, its contents land at the receiver with the sender's mark. -/
theorem send_tile (b : Bool) (c n : Dev nD) (hn : n = nx b c) {t : ℕ} (ht : t < 14)
    {src src' dst dst' : Memref sig .tc .vmem S512x2048 .bf16} (hs : src' = src) (hd : dst' = dst) (hsrcT : src = tileM (chunk b c t) b)
    {sS sR : DmaSem sig} (hsS : sS = qS b (slot t)) (hsR : sR = qR b (slot t))
    (hl : ∀ X, landing (F := F) b (nx b c) t X = owns (nx b c : Thread nD τ) dst fullShare X) (hN : dst.view.dmaCredit = N)
    {O₀ O : CellTallies nD τ sig ℕ} (hO : O₀ = O + tallyAt (rC b (nx b c) (slot t)) (t / 2) N)
    {hsc : (dst' : Memref sig (Dev.tc n : Thread nD τ).2.kind .vmem S512x2048 .bf16).view.ref.isScScratch = false}
    {hsrc : src'.view.WordExact} {hdst : dst'.view.WordExact}
    {hsem : DmaTarget.Typed .vmem (.dma sR) (.remote (Dev.tc n : Thread nD τ) (dst' : Memref sig (Dev.tc n : Thread nD τ).2.kind .vmem S512x2048 .bf16) (.dma sS) hsc)}
    {k : PUnit → Prog (TpuEff nD τ sig (Elt F) Λ₀ .tc) α} :
    iprop(cinv m (sC b c (slot t)) ∗ cinv m (rC b (nx b c) (slot t)) ∗ tile c (chunk b c t) b (val m b t c) ∗ give b (nx b c) t ∗ ow c O₀
        ∗ dutyTok ER (sC b c (slot t)) (t / 2) false ∗ reached ER (sC b c (slot t)) (t / 2)
        ∗ dutyTok ER (rC b (nx b c) (slot t)) (t / 2) false ∗ reached ER (stepC c) t)
      ⊢ iprop((iprop(cred (tallyAt (sC b c (slot t)) (t / 2) N) ∗ ow c O) -∗ runs c (k ⟨⟩) Q)
        -∗ runs c (.op (.enqueueDma src' (.remote (Dev.tc n : Thread nD τ) dst' (.dma sS) hsc) (.dma sR) hsrc hdst hsem) k) Q) := by
  subst hn; subst hs; subst hd; subst hsrcT; subst hsS; subst hsR
  have hr : t / 2 < 7 := by omega
  unfold cinv ow give tile
  rw [if_pos ht]
  unfold owns
  iintro ⟨⟨%κ₁, #HI₁⟩, ⟨%κ₂, #HI₂⟩, ⟨%fs, %hfs, Hsrc⟩, ⟨⟨%X, Hdst⟩, #HrR⟩, ⟨%W, HO⟩, Ht₁, #HrS, Ht₂, #HrT⟩ Hk
  ihave Hdst := (Entails.of_eq (hl X)) $$ Hdst
  unfold owns
  icases Hdst with ⟨%fd, -, Hdst⟩
  iapply (Rounds.wp_send_pointsTo_with 𝒱₀ ER (rd m) (c : Thread nD τ) none (κ₁ := κ₁) (κ₂ := κ₂)
      (r₁ := t / 2) (r₂ := t / 2) (d₁ := false) (d₂ := false) (fd := fd) (F := reached ER (stepC c) t)
      (mem_dma m c (by rw [rounds_S]; exact hr)) (mem_dma m (nx b c) (by rw [rounds_R]; exact hr))
      (t / 2) (t / 2) N hN (amount_dma c _ _ _) (amount_dma (nx b c) _ _ _) O hO (W := W)
      (by
        rw [show (rd m).payload (sC b c (slot t)) (t / 2) false = sentPay m b c t from pay_S_step m c b false t, sentPay, ← hfs]
        exact owns_intro _ _ _ _)
      (by
        rw [show (rd m).payload (rC b (nx b c) (slot t)) (t / 2) false = recvPay m b (nx b c) t from pay_R_step m (nx b c) b false t, recvPay, hl,
          nx_nx', ← hfs]
        iintro ⟨H, Hr⟩
        isplitl [H]
        · ihave H := (owns_intro (nx b c : Thread nD τ) _ fullShare _) $$ H
          rw [View.read_write_univ]; iexact H
        iexact Hr)) $$ [Hsrc Hdst HO Ht₁ Ht₂]
  · isplitr; · iexact HI₁
    isplitr; · iexact HI₂
    isplitl [Hsrc]; · iexact Hsrc
    isplitl [Hdst]
    · isplitl [Hdst]; · iexact Hdst
      iexact HrT
    isplitl [HO]; · iexact HO
    isplitl [Ht₁]; · iexact Ht₁
    isplitr; · iexact HrS
    isplitl [Ht₂]; · iexact Ht₂
    iexact HrR
  iintro ⟨Hc, HO⟩
  iapply Hk
  isplitl [Hc]; · iexact Hc
  iexists _; iexact HO

end Cert.Ring

end
-- ==== Proof.Tiles.lean ====
/-
# Loads, stores and copies of whole tiles

The rules for the operations that stay on one device: reading and writing a tile of the result, reading a slot of a
two-slot buffer, reading half of the right factor, and starting the copy of a block of rows of the left factor.
-/
module

public import proofs.«01_k».proof.Proof.Steps

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-- Reading a tile of the result. -/
theorem load_tile (c : Dev nD) (j : Fin 8) (h : Bool) {X : S512x2048.Idx → Elt F .bf16} {o : Fin 2 → ℕ} (ho : o = ![512 * j.val, 2048 * h.toNat])
    {inb : ∀ a, o a + S512x2048.size a ≤ S4096x4096.size a}
    {hl : oM.view.LoadsAt (Rect.unit (s := S4096x4096) o S512x2048.size inb).toLoadRect}
    {k : (S512x2048.Idx → Elt F .bf16) → Prog (TpuEff nD τ sig (Elt F) Λ₀ .tc) α} :
    tile c j h X ⊢ iprop((tile c j h X -∗ runs c (k X) Q)
      -∗ runs c (.op (.load oM (Rect.unit (s := S4096x4096) o S512x2048.size inb).toLoadRect hl) k) Q) := by
  subst ho
  unfold tile owns
  iintro ⟨%f, %hf, H⟩ Hk
  iapply (wp_load_rect 𝒱₀ (c : Thread nD τ) none Set.univ (m := oM) (r := tileR j h) (f := f) (Finset.Subset.refl _)) $$ H
  iintro H
  rw [show (oM.access (tileR j h)).read (Elt F) f = X from hf]
  iapply Hk
  iexists f; isplitr; · ipureintro; exact hf
  iexact H

/-- Writing a tile of the result. -/
theorem store_tile (c : Dev nD) (j : Fin 8) (h : Bool) {X w : S512x2048.Idx → Elt F .bf16} {o : Fin 2 → ℕ} (ho : o = ![512 * j.val, 2048 * h.toNat])
    {inb : ∀ a, o a + S512x2048.size a ≤ S4096x4096.size a}
    {hx : (oM.access (Rect.unit (s := S4096x4096) o S512x2048.size inb)).Stores Finset.univ}
    {hm : (Finset.univ : Finset (Rect.unit (s := S4096x4096) o S512x2048.size inb).shape.Idx) = Finset.univ ∨ ∀ a, (Rect.unit (s := S4096x4096) o S512x2048.size inb).stride a = 1}
    {k : PUnit → Prog (TpuEff nD τ sig (Elt F) Λ₀ .tc) α} :
    tile c j h X ⊢ iprop((tile c j h w -∗ runs c (k ⟨⟩) Q)
      -∗ runs c (.op (.store oM (Rect.unit (s := S4096x4096) o S512x2048.size inb) w Finset.univ hx hm) k) Q) := by
  subst ho
  unfold tile owns
  iintro ⟨%f, -, H⟩ Hk
  iapply (wp_store 𝒱₀ (c : Thread nD τ) none Set.univ (m := oM) (r := tileR j h) (Mk := Finset.univ) (S := (tileM j h).view.set) (f := f) (Finset.Subset.refl _)) $$ H
  iintro H
  iapply Hk
  iexists _; isplitr
  swap; · iexact H
  ipureintro; exact View.read_write_univ f w

/-- A reshaped view reads at the matched place. -/
theorem read_reshaped {κ : Kind} {sp : Space} {s s' : Shape} {e : EltTy} (v : View sig κ sp s e) (h : s'.numel = s.numel) (f : v.ty.Contents (Elt F))
    (j : s.Idx) : (v.reshape s' h).read (Elt F) f (Shape.reshapeEquiv h.symm j) = v.read (Elt F) f j := by
  show v.read (Elt F) f (Shape.reshapeEquiv h (Shape.reshapeEquiv h.symm j)) = v.read (Elt F) f j
  rw [Shape.reshapeEquiv_reshapeEquiv, Shape.reshapeEquiv_self]

/-- What a load of a slot reads, from what its squeezed view reads. -/
theorem unsq_read (M : Memref sig .tc .vmem S2x512x2048 .bf16) (s : Fin 2) (f : M.view.ty.Contents (Elt F)) :
    (M.access (slabR s)).read (Elt F) f = unsq ((slabM M s).view.read (Elt F) f) :=
  funext fun j => (read_reshaped (M.access (slabR s)) squeezes_S1x512x2048_S512x2048.numel_eq f j).symm

/-- Reading a slot of a two-slot buffer. -/
theorem load_slab (c : Dev nD) (M : Memref sig .tc .vmem S2x512x2048 .bf16) (s : Fin 2) {X : S512x2048.Idx → Elt F .bf16} {o : Fin 3 → ℕ}
    (ho : o = ![s.val, 0, 0]) {inb : ∀ a, o a + S1x512x2048.size a ≤ S2x512x2048.size a}
    {hl : M.view.LoadsAt (Rect.unit (s := S2x512x2048) o S1x512x2048.size inb).toLoadRect}
    {k : (S1x512x2048.Idx → Elt F .bf16) → Prog (TpuEff nD τ sig (Elt F) Λ₀ .tc) α} :
    slab c M s X ⊢ iprop((slab c M s X -∗ runs c (k (unsq X)) Q)
      -∗ runs c (.op (.load M (Rect.unit (s := S2x512x2048) o S1x512x2048.size inb).toLoadRect hl) k) Q) := by
  subst ho
  unfold slab owns
  iintro ⟨%f, %hf, H⟩ Hk
  have hs : (M.access (slabR s)).set ⊆ (slabM M s).view.set := (View.set_reshape _ _).symm.subset
  iapply (wp_load_rect 𝒱₀ (c : Thread nD τ) none Set.univ (m := M) (r := slabR s) (f := f) hs) $$ H
  iintro H
  rw [unsq_read M s f, hf]
  iapply Hk
  iexists f; isplitr; · ipureintro; exact hf
  iexact H

/-- Device `c`'s right factor in its staging buffer. -/
def fac (m : (ℓ : Loc nD τ sig) → Buf (Elt F) ℓ) (c : Dev nD) : sProp 𝕄 := owns (c : Thread nD τ) bM fullShare (bstg m c)

/-- Reading half of the right factor. -/
theorem load_half (c : Dev nD) (h : Bool) {o : Fin 2 → ℕ} (ho : o = ![0, 2048 * h.toNat])
    {inb : ∀ a, o a + S2048x2048.size a ≤ S2048x4096.size a}
    {hl : bM.view.LoadsAt (Rect.unit (s := S2048x4096) o S2048x2048.size inb).toLoadRect}
    {k : (S2048x2048.Idx → Elt F .bf16) → Prog (TpuEff nD τ sig (Elt F) Λ₀ .tc) α} :
    fac m c ⊢ iprop((fac m c -∗ runs c (k (halfOf m c h)) Q)
      -∗ runs c (.op (.load bM (Rect.unit (s := S2048x4096) o S2048x2048.size inb).toLoadRect hl) k) Q) := by
  subst ho
  unfold fac
  rw [owns_whole]
  iintro H Hk
  iapply (wp_load 𝒱₀ (c : Thread nD τ) none Set.univ (m := bM) (Finset.subset_univ _)) $$ H
  iintro H
  iapply Hk; iexact H

/-- Starting the copy of a block of rows into its slot. -/
theorem copy_rows (c : Dev nD) (s : Fin 2) {r : ℕ} (hr : r < 4)
    {src src' : Memref sig .tc .hbm S512x2048 .bf16} (hs : src' = src) (hsrcT : src = rowsM (workChunk c s r))
    {dst : Memref sig .tc .vmem S512x2048 .bf16} (hd : dst = slabM wM s) {sm : DmaSem sig} (hsm : sm = qA s)
    {hsrc : src'.view.WordExact} {hdst : dst.view.WordExact} {hsem : DmaTarget.Typed (nD := nD) (τ := τ) (p := Proc.tc) .hbm (.dma sm) (.here (p := Proc.tc) dst)}
    {k : PUnit → Prog (TpuEff nD τ sig (Elt F) Λ₀ .tc) α} :
    iprop(cinv m (aC c s) ∗ rows m c (workChunk c s r) ∗ (∃ X, slab c wM s X) ∗ dutyTok ER (aC c s) r false ∗ reached ER (aC c s) r)
      ⊢ iprop((cred (tallyAt (aC c s) r N) -∗ runs c (k ⟨⟩) Q)
        -∗ runs c (.op (.enqueueDma src' (.here dst) (.dma sm) hsrc hdst hsem) k) Q) := by
  subst hs; subst hsrcT; subst hd; subst hsm
  unfold cinv rows slab owns
  iintro ⟨⟨%κ, #HI⟩, ⟨%fs, %hfs, Hsrc⟩, ⟨%X, %fd, -, Hdst⟩, Ht, Hr⟩ Hk
  iapply (Rounds.wp_copy_pointsTo 𝒱₀ ER (rd m) (c : Thread nD τ) none (κ := κ) (d := false) (r := r) (fd := fd) (fs := fs) (q := fullShare)
      (mem_dma m c (by rw [rounds_A]; exact hr)) r N (credit_work s) (amount_dma c _ _ _)
      (by
        rw [show (rd m).payload (aC c s) r false = copyPay m c s r from pay_A m c false s r, copyPay, rows, ← hfs]
        iintro ⟨Hd, Hs⟩
        isplitl [Hd]
        · ihave H := (owns_intro (c : Thread nD τ) (slabM wM s) fullShare _) $$ Hd
          rw [View.read_write_univ]; iexact H
        iapply (owns_intro (c : Thread nD τ) (rowsM (workChunk c s r)) fullShare fs); iexact Hs)) $$ [Hsrc Hdst Ht Hr]
  · isplitr; · iexact HI
    isplitl [Hsrc]; · iexact Hsrc
    isplitl [Hdst]; · iexact Hdst
    isplitl [Ht]; · iexact Ht
    iexact Hr
  iexact Hk

end Cert.Ring

end
-- ==== Proof.Control.lean ====
/-
# One step of the ring, without its data

The marks, tokens and credits a device carries from step to step, and the four moves of a step: send in both directions,
wait for one direction's two transfers, and close the step by signalling both neighbours and waiting for both.
-/
module

public import proofs.«01_k».proof.Proof.Tiles

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-! ## Families over a run of steps -/

/-- A run of indices, its first one apart. -/
theorem ico_first {a b : ℕ} (h : a < b) (Φ : ℕ → sProp 𝕄) : bigSep (Finset.Ico a b) Φ = iprop(Φ a ∗ bigSep (Finset.Ico (a + 1) b) Φ) := by
  rw [← Finset.insert_Ico_add_one_left_eq_Ico h]; exact BI.bigSep_insert (by simp only [Finset.mem_Ico]; omega)
/-- A run of indices, its last one apart. -/
theorem ico_last {a b : ℕ} (h : a ≤ b) (Φ : ℕ → sProp 𝕄) : bigSep (Finset.Ico a (b + 1)) Φ = iprop(Φ b ∗ bigSep (Finset.Ico a b) Φ) := by
  rw [← Finset.insert_Ico_right_eq_Ico_add_one h]; exact BI.bigSep_insert Finset.right_notMem_Ico
/-- An empty run of indices holds nothing. -/
theorem ico_nil {a b : ℕ} (h : b ≤ a) (Φ : ℕ → sProp 𝕄) : bigSep (Finset.Ico a b) Φ = iprop(emp) := by
  rw [Finset.Ico_eq_empty_of_le h]; exact BI.bigSep_empty

/-! ## The cells, numbered -/

/-- The twelve semaphores of the schedule: the copy pair, then send and receive pairs, the step's and the barrier's. -/
def csem (i : Fin 12) : SemLoc sig :=
  ![.dma 2, .dma 3, .dma 4, .dma 5, .dma 6, .dma 7, .dma 8, .dma 9, .dma 10, .dma 11, .reg stepS, .reg barS] i
/-- The cell that a device and a number name. -/
abbrev kcell (x : Dev nD × Fin 12) : GSem nD τ sig := ((x.1 : Thread nD τ), csem x.2)

/-- The number of the copy semaphore of a slot. -/
def iA (s : Fin 2) : Fin 12 := ⟨s.val, by omega⟩
/-- The number of the send semaphore of a direction and slot. -/
def iS (b : Bool) (s : Fin 2) : Fin 12 := ⟨4 * b.toNat + 2 + s.val, by cases b <;> simp only [Bool.toNat_true, Bool.toNat_false] <;> omega⟩
/-- The number of the receive semaphore of a direction and slot. -/
def iR (b : Bool) (s : Fin 2) : Fin 12 := ⟨4 * b.toNat + 4 + s.val, by cases b <;> simp only [Bool.toNat_true, Bool.toNat_false] <;> omega⟩

/-- That number names the copy semaphore. -/
theorem kcell_A (c : Dev nD) (s : Fin 2) : kcell (c, iA s) = aC c s := by fin_cases s <;> rfl
/-- That number names the send semaphore. -/
theorem kcell_S (b : Bool) (c : Dev nD) (s : Fin 2) : kcell (c, iS b s) = sC b c s := by cases b <;> fin_cases s <;> rfl
/-- That number names the receive semaphore. -/
theorem kcell_R (b : Bool) (c : Dev nD) (s : Fin 2) : kcell (c, iR b s) = rC b c s := by cases b <;> fin_cases s <;> rfl
/-- Number `10` names the step semaphore. -/
theorem kcell_step (c : Dev nD) : kcell (c, 10) = stepC c := rfl
/-- Number `11` names the barrier. -/
theorem kcell_bar (c : Dev nD) : kcell (c, 11) = barC c := rfl

/-- Every cell's invariant, and that every cell has reached its first round. -/
def records (m : (ℓ : Loc nD τ sig) → Buf (Elt F) ℓ) : sProp 𝕄 :=
  bigSep (Finset.univ : Finset (Dev nD × Fin 12)) fun x => iprop(cinv m (kcell x) ∗ reached ER (kcell x) 0)
instance records_persistent : BI.Persistent (records m) := by unfold records; infer_instance

/-- The records of one cell: its invariant, and that its first round is reached. -/
theorem rec_at (x : Dev nD × Fin 12) : records m ⊢ iprop(cinv m (kcell x) ∗ reached ER (kcell x) 0) := by
  unfold records; exact bigSep_elim (Finset.mem_univ x)
/-- The invariant of a named cell. -/
theorem rec_inv (x : Dev nD × Fin 12) {g : GSem nD τ sig} (h : kcell x = g) : records m ⊢ cinv m g := by
  subst h; exact (rec_at x).trans sep_elim_left
/-- The first round of a named cell is reached. -/
theorem rec_reached (x : Dev nD × Fin 12) {g : GSem nD τ sig} (h : kcell x = g) : records m ⊢ reached ER g 0 := by
  subst h; exact (rec_at x).trans sep_elim_right

/-! ## What is carried -/

/-- Where device `c`'s send and receive cells of direction `b` stand before step `t`. -/
def pos (b : Bool) (c : Dev nD) (t : ℕ) : sProp 𝕄 :=
  iprop(st (sC b c (slot t)) (t / 2) ∗ st (sC b c (slot (t + 1))) ((t + 1) / 2)
    ∗ st (rC b c (slot t)) (t / 2) ∗ st (rC b c (slot (t + 1))) ((t + 1) / 2))
/-- What device `c` pays step `u` of direction `b` with, and the credit for what it will receive. -/
def toks (b : Bool) (c : Dev nD) (u : ℕ) : sProp 𝕄 :=
  iprop(dutyTok ER (sC b c (slot u)) (u / 2) false ∗ dutyTok ER (rC b (nx b c) (slot u)) (u / 2) false
    ∗ dutyTok ER (stepC (nx (!b) c)) u b ∗ cred (tallyAt (rC b c (slot u)) (u / 2) N))
/-- The same for all steps from `t` on, with the credit for both neighbours' signals. -/
def later (c : Dev nD) (t : ℕ) : sProp 𝕄 :=
  bigSep (Finset.Ico t 14) fun u => iprop(toks false c u ∗ toks true c u ∗ cred (tallyAt (stepC c) u 2))
/-- Ready to send at step `t` in direction `b`. -/
def ready (b : Bool) (c : Dev nD) (t : ℕ) : sProp 𝕄 := iprop(pos b c t ∗ toks b c t ∗ give b (nx b c) t)
/-- A device before step `t`, its data aside. -/
def ctl (m : (ℓ : Loc nD τ sig) → Buf (Elt F) ℓ) (c : Dev nD) (t : ℕ) : sProp 𝕄 :=
  iprop(records m ∗ levAts L lv ∗ ow c (Ow c t) ∗ st (stepC c) t ∗ later c t
    ∗ (pos false c t ∗ give false (nx false c) t) ∗ (pos true c t ∗ give true (nx true c) t))
/-- Both transfers of step `t` in direction `b` under way. -/
def flying (b : Bool) (c : Dev nD) (t : ℕ) : sProp 𝕄 :=
  iprop(pos b c t ∗ cred (tallyAt (sC b c (slot t)) (t / 2) N) ∗ cred (tallyAt (rC b c (slot t)) (t / 2) N) ∗ dutyTok ER (stepC (nx (!b) c)) t b)
/-- Direction `b` of step `t` done but for the signal. -/
def over (b : Bool) (c : Dev nD) (t : ℕ) : sProp 𝕄 :=
  iprop(pos b c (t + 1) ∗ reached ER (stepC (nx (!b) c)) t ∗ dutyTok ER (stepC (nx (!b) c)) t b)
/-- Where device `c` will receive at step `t`, if there is such a step. -/
def spot (b : Bool) (c : Dev nD) (t : ℕ) : sProp 𝕄 := if t < 14 then iprop(∃ X, landing b c t X) else iprop(emp)

/-- The levels and what is still owed after the sends of step `t`. -/
abbrev owAt (c : Dev nD) (t : ℕ) : sProp 𝕄 := ow c (Ow c (t + 1) + sigOwe c t)

/-- After the sends of step `t` all that is owed lies above the arrivals of step `t`. -/
theorem above_mid (c : Dev nD) {t : ℕ} (ht : t < 14) : Above (3 * t + 2) (Ow c (t + 1) + sigOwe c t) :=
  ((above_Ow c (t + 1)).mono (by omega)).add (above_sigOwe c ht)
/-- After the signals of step `t` all that is owed lies above the step semaphore of step `t`. -/
theorem above_next (c : Dev nD) (t : ℕ) : Above (3 * t + 3) (Ow c (t + 1)) := (above_Ow c (t + 1)).mono (by omega)

/-- Opening a step. -/
theorem ctl_open (c : Dev nD) {t : ℕ} (ht : t < 14) :
    ctl m c t ⊢ iprop(records m ∗ levAts L lv
      ∗ ow c (Ow c (t + 1) + sigOwe c t + tallyAt (rC true (nx true c) (slot t)) (t / 2) N + tallyAt (rC false (nx false c) (slot t)) (t / 2) N)
      ∗ st (stepC c) t ∗ cred (tallyAt (stepC c) t 2) ∗ later c (t + 1) ∗ ready false c t ∗ ready true c t) := by
  unfold ctl later ready
  rw [ico_first ht, ← Ow_step c ht]
  iintro ⟨#HR, #Hl, HO, Hst, ⟨⟨Hf, Hb, Hc⟩, Hlat⟩, ⟨Hpf, Hgf⟩, Hpb, Hgb⟩
  isplitr; · iexact HR
  isplitr; · iexact Hl
  isplitl [HO]; · iexact HO
  isplitl [Hst]; · iexact Hst
  isplitl [Hc]; · iexact Hc
  isplitl [Hlat]; · iexact Hlat
  isplitl [Hpf Hf Hgf]
  · isplitl [Hpf]; · iexact Hpf
    isplitl [Hf] <;> iassumption
  isplitl [Hpb]; · iexact Hpb
  isplitl [Hb] <;> iassumption

/-- Sending in direction `b` at step `t`. -/
theorem step_send (b : Bool) (c n : Dev nD) (hn : n = nx b c) {t : ℕ} (ht : t < 14)
    {src dst dst' : Memref sig .tc .vmem S512x2048 .bf16} (hd : dst' = dst) (hsrcT : src = tileM (chunk b c t) b)
    {sS sR : DmaSem sig} (hsS : sS = qS b (slot t)) (hsR : sR = qR b (slot t))
    (hl : ∀ X, landing (F := F) b (nx b c) t X = owns (nx b c : Thread nD τ) dst fullShare X) (hN : dst.view.dmaCredit = N)
    {O : CellTallies nD τ sig ℕ}
    {hsc : (dst' : Memref sig (Dev.tc n : Thread nD τ).2.kind .vmem S512x2048 .bf16).view.ref.isScScratch = false}
    {hsrc : src.view.WordExact} {hdst : dst'.view.WordExact}
    {hsem : DmaTarget.Typed .vmem (.dma sR) (.remote (Dev.tc n : Thread nD τ) (dst' : Memref sig (Dev.tc n : Thread nD τ).2.kind .vmem S512x2048 .bf16) (.dma sS) hsc)}
    {k : PUnit → Prog (TpuEff nD τ sig (Elt F) Λ₀ .tc) α} :
    iprop(records m ∗ ow c (O + tallyAt (rC b (nx b c) (slot t)) (t / 2) N) ∗ st (stepC c) t ∗ ready b c t ∗ tile c (chunk b c t) b (val m b t c))
      ⊢ iprop((iprop(ow c O ∗ st (stepC c) t ∗ flying b c t) -∗ runs c (k ⟨⟩) Q)
        -∗ runs c (.op (.enqueueDma src (.remote (Dev.tc n : Thread nD τ) dst' (.dma sS) hsc) (.dma sR) hsrc hdst hsem) k) Q) := by
  unfold ready pos toks st
  iintro ⟨#HR, HO, ⟨Hst, #HrT⟩, ⟨⟨⟨HpS, #HrS⟩, Hp1, Hp2, Hp3⟩, ⟨Ht1, Ht2, Ht3, Hc⟩, Hg⟩, HT⟩ Hk
  iapply (send_tile b c n hn ht rfl hd hsrcT hsS hsR hl hN rfl) $$ [HO Ht1 Ht2 Hg HT]
  · isplitr; · iapply (rec_inv _ (kcell_S b c (slot t))); iexact HR
    isplitr; · iapply (rec_inv _ (kcell_R b (nx b c) (slot t))); iexact HR
    isplitl [HT]; · iexact HT
    isplitl [Hg]; · iexact Hg
    isplitl [HO]; · iexact HO
    isplitl [Ht1]; · iexact Ht1
    isplitr; · iexact HrS
    isplitl [Ht2]; · iexact Ht2
    iexact HrT
  iintro ⟨Hc1, HO⟩
  iapply Hk
  unfold flying pos st
  isplitl [HO]; · iexact HO
  isplitl [Hst]
  · isplitl [Hst]; · iexact Hst
    iexact HrT
  isplitl [HpS Hp1 Hp2 Hp3]
  · isplitl [HpS]
    · isplitl [HpS]; · iexact HpS
      iexact HrS
    isplitl [Hp1]; · iexact Hp1
    isplitl [Hp2] <;> iassumption
  isplitl [Hc1]; · iexact Hc1
  isplitl [Hc] <;> iassumption

/-- Waiting for the two transfers of step `t` in direction `b`: the tile sent comes back, and the neighbour's has landed. -/
theorem step_wait (b : Bool) (c : Dev nD) {t : ℕ} (ht : t < 14) {sS sR : DmaSem sig} (hsS : sS = qS b (slot t)) (hsR : sR = qR b (slot t))
    {sp sp' sp₂ sp₂' : Space} {s s' s₂ s₂' : Shape} {e e' e₂ e₂' : EltTy}
    {src : Memref sig .tc sp' s' e'} {κ' : Kind} {dst : Memref sig κ' sp s e} (hN : dst.view.dmaCredit = N)
    {src₂ : Memref sig .tc sp₂' s₂' e₂'} {κ₂ : Kind} {dst₂ : Memref sig κ₂ sp₂ s₂ e₂} (hN₂ : dst₂.view.dmaCredit = N)
    {hsrc : src.view.WordExact} {hdst : dst.view.WordExact} {hsrc₂ : src₂.view.WordExact} {hdst₂ : dst₂.view.WordExact}
    {k : PUnit → Prog (TpuEff nD τ sig (Elt F) Λ₀ .tc) α} :
    iprop(records m ∗ levAts L lv ∗ owAt c t ∗ flying b c t)
      ⊢ iprop((iprop(owAt c t ∗ over b c t ∗ tile c (chunk b c t) b (val m b t c) ∗ landing b c t (val m b t (nx (!b) c))) -∗ runs c (k ⟨⟩) Q)
        -∗ runs c (.op (.waitDma2 sS src dst hsrc hdst) fun _ => .op (.waitDma2 sR src₂ dst₂ hsrc₂ hdst₂) k) Q) := by
  have hr : t / 2 < 7 := by omega
  have hu : (t + 1 + 1) / 2 = t / 2 + 1 := by omega
  unfold flying pos
  iintro ⟨#HR, #Hl, HO, ⟨⟨HpS, HpS', HpR, HpR'⟩, HcS, HcR, Ht⟩⟩ Hk
  iapply (wait_dma c hsS (by rw [rounds_S]; exact hr) (by omega) (pay_S_step m c b false t)
    ((above_mid c ht).mono (by rw [lv_S]; omega)) hN) $$ [HcS HO HpS]
  · isplitr; · iapply (rec_inv _ (kcell_S b c (slot t))); iexact HR
    isplitl [HcS]; · iexact HcS
    isplitl [HO]; · iexact HO
    isplitr; · iexact Hl
    iexact HpS
  iintro ⟨HO, HpS, HT⟩
  iapply (wait_dma c hsR (by rw [rounds_R]; exact hr) (by omega) (pay_R_step m c b false t)
    ((above_mid c ht).mono (lv_R_step b c t).le) hN₂) $$ [HcR HO HpR]
  · isplitr; · iapply (rec_inv _ (kcell_R b c (slot t))); iexact HR
    isplitl [HcR]; · iexact HcR
    isplitl [HO]; · iexact HO
    isplitr; · iexact Hl
    iexact HpR
  unfold sentPay recvPay over pos
  rw [slot_add_two, hu]
  iintro ⟨HO, HpR, HX, HrT⟩
  iapply Hk
  isplitl [HO]; · iexact HO
  isplitl [HpS HpS' HpR HpR' Ht HrT]
  · isplitl [HpS HpS' HpR HpR']
    · isplitl [HpS']; · iexact HpS'
      isplitl [HpS]; · iexact HpS
      isplitl [HpR']; · iexact HpR'
      iexact HpR
    isplitl [HrT] <;> iassumption
  isplitl [HT] <;> iassumption

/-- Leave to write where `c` receives next, from the place and the mark. -/
theorem give_intro (b : Bool) (c : Dev nD) (t : ℕ) : iprop(pos b c t ∗ spot b c t) ⊢ iprop(pos b c t ∗ give (F := F) b c t) := by
  unfold give spot
  by_cases h : t < 14
  · rw [if_pos h, if_pos h]
    unfold pos st
    iintro ⟨⟨Ha, Hb, ⟨Hc, #Hr⟩, Hd⟩, HX⟩
    isplitl [Ha Hb Hc Hd]
    · isplitl [Ha]; · iexact Ha
      isplitl [Hb]; · iexact Hb
      isplitl [Hc]
      · isplitl [Hc]; · iexact Hc
        iexact Hr
      iexact Hd
    isplitl [HX]; · iexact HX
    iexact Hr
  · rw [if_neg h, if_neg h]

/-- Closing a step: leave to both neighbours, and both neighbours' leave. -/
theorem step_close (c n₁ n₂ : Dev nD) (h₁ : n₁ = nx true c) (h₂ : n₂ = nx false c) {t : ℕ} (ht : t < 14)
    {w₁ w₂ w₃ : ℕ} (hw₁ : w₁ = 1) (hw₂ : w₂ = 1) (hw₃ : w₃ = 2)
    {k : PUnit → Prog (TpuEff nD τ sig (Elt F) Λ₀ .tc) α} :
    iprop(records m ∗ levAts L lv ∗ owAt c t ∗ st (stepC c) t ∗ cred (tallyAt (stepC c) t 2) ∗ later c (t + 1)
        ∗ (over false c t ∗ spot false c (t + 1)) ∗ (over true c t ∗ spot true c (t + 1)))
      ⊢ iprop((ctl m c (t + 1) -∗ runs c (k ⟨⟩) Q)
        -∗ runs c (.op (.semSignal ((n₁, .tc) : Thread nD τ) stepS w₁) fun _ => .op (.semSignal ((n₂, .tc) : Thread nD τ) stepS w₂) fun _ =>
            .op (.semWait stepS w₃) k) Q) := by
  have hr : t < roundsOf (.reg stepS) := by rw [rounds_step]; exact ht
  have hg : ∀ d : Bool, payOf m (nx (!d) c) (.reg stepS) t d = give d c (t + 1) := fun d => by
    rw [pay_step]; congr 1; exact nx_nx d c
  unfold over
  iintro ⟨#HR, #Hl, HO, Hst, Hc, Hlat, ⟨⟨Hpf, Hrf, Htf⟩, Hsf⟩, ⟨Hpb, Hrb, Htb⟩, Hsb⟩ Hk
  ihave Hf := (give_intro (F := F) false c (t + 1)) $$ [Hpf Hsf]
  · isplitl [Hpf] <;> iassumption
  icases Hf with ⟨Hpf, Hgf⟩
  ihave Hb := (give_intro (F := F) true c (t + 1)) $$ [Hpb Hsb]
  · isplitl [Hpb] <;> iassumption
  icases Hb with ⟨Hpb, Hgb⟩
  iapply (signal_reg c n₁ false h₁ stepS hr (hg false) (O₀ := Ow c (t + 1) + sigOwe c t) (O := Ow c (t + 1) + tallyAt (stepC (nx false c)) t 1)
      (by unfold sigOwe; rw [← add_assoc]; rfl) hw₁) $$ [HO Htf Hgf Hrf]
  · isplitr; · iapply (rec_inv _ (kcell_step (nx true c))); iexact HR
    isplitl [HO]; · iexact HO
    isplitl [Htf]; · iexact Htf
    isplitl [Hgf] <;> iassumption
  iintro HO
  iapply (signal_reg c n₂ true h₂ stepS hr (hg true) (O := Ow c (t + 1)) rfl hw₂) $$ [HO Htb Hgb Hrb]
  · isplitr; · iapply (rec_inv _ (kcell_step (nx false c))); iexact HR
    isplitl [HO]; · iexact HO
    isplitl [Htb]; · iexact Htb
    isplitl [Hgb] <;> iassumption
  iintro HO
  iapply (wait_reg c stepS hr ht (fun d => pay_step m c d t) ((above_next c t).mono (by rw [lv_step])) hw₃) $$ [HO Hc Hst]
  · isplitr; · iapply (rec_inv _ (kcell_step c)); iexact HR
    isplitl [Hc]; · iexact Hc
    isplitl [HO]; · iexact HO
    isplitr; · iexact Hl
    iexact Hst
  iintro ⟨HO, Hst, Hgf, Hgb⟩
  iapply Hk
  unfold ctl
  isplitr; · iexact HR
  isplitr; · iexact Hl
  isplitl [HO]; · iexact HO
  isplitl [Hst]; · iexact Hst
  isplitl [Hlat]; · iexact Hlat
  isplitl [Hpf Hgf]
  · isplitl [Hpf] <;> iassumption
  isplitl [Hpb] <;> iassumption

end Cert.Ring

end
-- ==== Proof.Offsets.lean ====
/-
# The printed offsets and devices in closed form

Every offset the kernel computes from its device and its step, as the chunk and slot it names; every neighbour it
addresses; and every semaphore it names, as the schedule's.
-/
module

public import proofs.«01_k».proof.Proof.Control

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-- The loop has seven trips. -/
theorem trips1 : k0_t1_loop.trips = 7 := by decide
/-- The loop has seven trips. -/
theorem trips2 : k0_t2_loop.trips = 7 := by decide

/-! ## Tiles of the result and blocks of rows -/

/-- Which tile of the result the printed offsets are. -/
theorem off7_eq (c : Dev nD) (i : Fin k0_t1_loop.trips) : k0_off7 c i = ![512 * (chunk false c (i.val)).val, 2048 * (false : Bool).toNat] := by revert c i; decide +kernel
/-- Which tile of the result the printed offsets are. -/
theorem off8_eq (c : Dev nD) (i : Fin k0_t1_loop.trips) : k0_off8 c i = ![512 * (chunk true c (i.val)).val, 2048 * (true : Bool).toNat] := by revert c i; decide +kernel
/-- Which tile of the result the printed offsets are. -/
theorem off11_eq (c : Dev nD) (i : Fin k0_t1_loop.trips) : k0_off11 c i = ![512 * (chunk false c (i.val + 1)).val, 2048 * (false : Bool).toNat] := by revert c i; decide +kernel
/-- Which tile of the result the printed offsets are. -/
theorem off12_eq (c : Dev nD) (i : Fin k0_t1_loop.trips) : k0_off12 c i = ![512 * (chunk false c (i.val + 1)).val, 2048 * (true : Bool).toNat] := by revert c i; decide +kernel
/-- Which tile of the result the printed offsets are. -/
theorem off15_eq (c : Dev nD) (i : Fin k0_t1_loop.trips) : k0_off15 c i = ![512 * (chunk true c (i.val + 1)).val, 2048 * (false : Bool).toNat] := by revert c i; decide +kernel
/-- Which tile of the result the printed offsets are. -/
theorem off16_eq (c : Dev nD) (i : Fin k0_t1_loop.trips) : k0_off16 c i = ![512 * (chunk true c (i.val + 1)).val, 2048 * (true : Bool).toNat] := by revert c i; decide +kernel
/-- Which tile of the result the printed offsets are. -/
theorem off17_eq (c : Dev nD) (i : Fin k0_t1_loop.trips) : k0_off17 c i = ![512 * (chunk false c (i.val + 1)).val, 2048 * (false : Bool).toNat] := by revert c i; decide +kernel
/-- Which tile of the result the printed offsets are. -/
theorem off19_eq (c : Dev nD) (i : Fin k0_t1_loop.trips) : k0_off19 c i = ![512 * (chunk true c (i.val + 1)).val, 2048 * (true : Bool).toNat] := by revert c i; decide +kernel
/-- Which chunk of rows the printed offsets are. -/
theorem off9_eq (c : Dev nD) (i : Fin k0_t1_loop.trips) : k0_off9 c i = ![512 * (chunk true c (i.val + 1)).val, 0] := by revert c i; decide +kernel
/-- Which chunk of rows the printed offsets are. -/
theorem off13_eq (c : Dev nD) (i : Fin k0_t1_loop.trips) : k0_off13 c i = ![512 * (chunk false c (i.val + 2)).val, 0] := by revert c i; decide +kernel
/-- Which tile of the result the printed offsets are. -/
theorem off21_eq (c : Dev nD) (i : Fin k0_t2_loop.trips) : k0_off21 c i = ![512 * (chunk false c (7 + i.val)).val, 2048 * (false : Bool).toNat] := by revert c i; decide +kernel
/-- Which tile of the result the printed offsets are. -/
theorem off22_eq (c : Dev nD) (i : Fin k0_t2_loop.trips) : k0_off22 c i = ![512 * (chunk true c (7 + i.val)).val, 2048 * (true : Bool).toNat] := by revert c i; decide +kernel
/-- Which chunk of rows the printed offsets are. -/
theorem off1_eq (c : Dev nD) : k0_off1 c = ![512 * (chunk true c 0).val, 0] := by revert c; decide +kernel
/-- Which chunk of rows the printed offsets are. -/
theorem off2_eq (c : Dev nD) : k0_off2 c = ![512 * (chunk false c 1).val, 0] := by revert c; decide +kernel
/-- Which tile of the result the printed offsets are. -/
theorem off3_eq (c : Dev nD) : k0_off3 c = ![512 * (chunk true c 0).val, 2048 * (false : Bool).toNat] := by revert c; decide +kernel
/-- Which tile of the result the printed offsets are. -/
theorem off4_eq (c : Dev nD) : k0_off4 c = ![512 * (chunk true c 0).val, 2048 * (true : Bool).toNat] := by revert c; decide +kernel

/-! ## Slots -/

/-- Which slot's semaphore the printed offset is. -/
theorem off5_eq (i : Fin k0_t1_loop.trips) : k0_off5 i = ![(slot i.val).val] := by revert i; decide +kernel
/-- Which slot the printed offsets are. -/
theorem off6_eq (i : Fin k0_t1_loop.trips) : k0_off6 i = ![(slot i.val).val, 0, 0] := by revert i; decide +kernel
/-- Which slot the printed offsets are. -/
theorem off18_eq (i : Fin k0_t1_loop.trips) : k0_off18 i = ![(slot i.val).val, 0, 0] := by revert i; decide +kernel
/-- Which slot's semaphore the printed offset is. -/
theorem off20_eq (i : Fin k0_t2_loop.trips) : k0_off20 i = ![(slot (7 + i.val)).val] := by revert i; decide +kernel

/-! ## Conditions -/

/-- In which trips the branch is taken. -/
theorem cond1_iff (i : Fin k0_t1_loop.trips) : k0_cond1 i = 1#1 ↔ i.val < 4 := by revert i; decide +kernel
/-- In which trips the branch is taken. -/
theorem cond2_iff (i : Fin k0_t1_loop.trips) : k0_cond2 i = 1#1 ↔ i.val < 3 := by revert i; decide +kernel
/-- In which trips the branch is taken. -/
theorem cond3_iff (i : Fin k0_t1_loop.trips) : k0_cond3 i = 1#1 ↔ i.val < 3 := by revert i; decide +kernel

/-! ## Neighbours -/

/-- Which neighbour the printed device is. -/
theorem dev1_eq (c : Dev nD) (h : k0_dev1 c < nD) : (⟨k0_dev1 c, h⟩ : Dev nD) = nx true c := by revert h; revert c; decide +kernel
/-- Which neighbour the printed device is. -/
theorem dev2_eq (c : Dev nD) (h : k0_dev2 c < nD) : (⟨k0_dev2 c, h⟩ : Dev nD) = nx false c := by revert h; revert c; decide +kernel
/-- Which neighbour the printed device is. -/
theorem dev3_eq (c : Dev nD) (h : k0_dev3 c < nD) : (⟨k0_dev3 c, h⟩ : Dev nD) = nx false c := by revert h; revert c; decide +kernel
/-- Which neighbour the printed device is. -/
theorem dev4_eq (c : Dev nD) (h : k0_dev4 c < nD) : (⟨k0_dev4 c, h⟩ : Dev nD) = nx true c := by revert h; revert c; decide +kernel
/-- Which neighbour the printed device is. -/
theorem dev5_eq (c : Dev nD) (h : k0_dev5 c < nD) : (⟨k0_dev5 c, h⟩ : Dev nD) = nx true c := by revert h; revert c; decide +kernel
/-- Which neighbour the printed device is. -/
theorem dev6_eq (c : Dev nD) (h : k0_dev6 c < nD) : (⟨k0_dev6 c, h⟩ : Dev nD) = nx false c := by revert h; revert c; decide +kernel
/-- Which neighbour the printed device is. -/
theorem dev7_eq (c : Dev nD) (h : k0_dev7 c < nD) : (⟨k0_dev7 c, h⟩ : Dev nD) = nx false c := by revert h; revert c; decide +kernel
/-- Which neighbour the printed device is. -/
theorem dev8_eq (c : Dev nD) (h : k0_dev8 c < nD) : (⟨k0_dev8 c, h⟩ : Dev nD) = nx true c := by revert h; revert c; decide +kernel
/-- Which neighbour the printed device is. -/
theorem dev9_eq (c : Dev nD) (h : k0_dev9 c < nD) : (⟨k0_dev9 c, h⟩ : Dev nD) = nx true c := by revert h; revert c; decide +kernel
/-- Which neighbour the printed device is. -/
theorem dev10_eq (c : Dev nD) (h : k0_dev10 c < nD) : (⟨k0_dev10 c, h⟩ : Dev nD) = nx false c := by revert h; revert c; decide +kernel

/-! ## Semaphores -/

/-- The semaphore at place `s` of a pair. -/
abbrev pick (A : DmaSems sig S2) (o : Fin 1 → ℕ) (inb : ∀ a, o a + S1.size a ≤ S2.size a) : DmaSem sig :=
  ((A.slice (Rect.unit (s := S2) o S1.size inb)).squeeze S_ squeezes_S1_S_).sem

/-- The copy semaphore of a slot. -/
theorem pick_A (s : Fin 2) {o : Fin 1 → ℕ} (ho : o = ![s.val]) {inb : ∀ a, o a + S1.size a ≤ S2.size a} : pick cc0_scratch3 o inb = qA s := by
  subst ho; revert inb; revert s; decide +kernel
/-- The send semaphore of the forward ring of a slot. -/
theorem pick_SF (s : Fin 2) {o : Fin 1 → ℕ} (ho : o = ![s.val]) {inb : ∀ a, o a + S1.size a ≤ S2.size a} : pick cc0_scratch4 o inb = qS false s := by
  subst ho; revert inb; revert s; decide +kernel
/-- The receive semaphore of the forward ring of a slot. -/
theorem pick_RF (s : Fin 2) {o : Fin 1 → ℕ} (ho : o = ![s.val]) {inb : ∀ a, o a + S1.size a ≤ S2.size a} : pick cc0_scratch5 o inb = qR false s := by
  subst ho; revert inb; revert s; decide +kernel
/-- The send semaphore of the backward ring of a slot. -/
theorem pick_SB (s : Fin 2) {o : Fin 1 → ℕ} (ho : o = ![s.val]) {inb : ∀ a, o a + S1.size a ≤ S2.size a} : pick cc0_scratch6 o inb = qS true s := by
  subst ho; revert inb; revert s; decide +kernel
/-- The receive semaphore of the backward ring of a slot. -/
theorem pick_RB (s : Fin 2) {o : Fin 1 → ℕ} (ho : o = ![s.val]) {inb : ∀ a, o a + S1.size a ≤ S2.size a} : pick cc0_scratch7 o inb = qR true s := by
  subst ho; revert inb; revert s; decide +kernel

/-! ## Memrefs -/

/-- A piece of the result at a tile's offsets is the tile. -/
theorem tileM_eq (k : Fin 8) (h : Bool) {o : Fin 2 → ℕ} (ho : o = ![512 * k.val, 2048 * h.toNat]) {inb : ∀ a, o a + S512x2048.size a ≤ S4096x4096.size a} :
    oM.slice (Rect.unit (s := S4096x4096) o S512x2048.size inb) (fun _ => rfl) = tileM k h := by subst ho; rfl
/-- A piece of the left factor at a chunk's offsets is the chunk. -/
theorem rowsM_eq (k : Fin 8) {o : Fin 2 → ℕ} (ho : o = ![512 * k.val, 0]) {inb : ∀ a, o a + S512x2048.size a ≤ S4096x2048.size a} :
    aM.slice (Rect.unit (s := S4096x2048) o S512x2048.size inb) (fun _ => rfl) = rowsM k := by subst ho; rfl
/-- A piece of a two-slot buffer at a slot's offsets is the slot. -/
theorem slabM_eq (M : Memref sig .tc .vmem S2x512x2048 .bf16) (s : Fin 2) {o : Fin 3 → ℕ} (ho : o = ![s.val, 0, 0])
    {inb : ∀ a, o a + S1x512x2048.size a ≤ S2x512x2048.size a} :
    (M.slice (Rect.unit (s := S2x512x2048) o S1x512x2048.size inb) (fun _ => rfl)).squeeze S512x2048 squeezes_S1x512x2048_S512x2048 = slabM M s := by subst ho; rfl

/-! ## Credits of transfers at printed offsets -/

/-- What a transfer at any tile's offsets credits. -/
theorem credit_tile_at (o : Fin 2 → ℕ) {inb : ∀ a, o a + S512x2048.size a ≤ S4096x4096.size a} :
    (oM.slice (Rect.unit (s := S4096x4096) o S512x2048.size inb) (fun _ => rfl)).view.dmaCredit = N := credit_tile 0 false
/-- What a transfer at any slot's offsets credits. -/
theorem credit_slab_at (b : Bool) (o : Fin 3 → ℕ) {inb : ∀ a, o a + S1x512x2048.size a ≤ S2x512x2048.size a} :
    (((cM b).slice (Rect.unit (s := S2x512x2048) o S1x512x2048.size inb) (fun _ => rfl)).squeeze S512x2048 squeezes_S1x512x2048_S512x2048).view.dmaCredit = N :=
  (show _ = (slabM (cM b) 0).view.dmaCredit by cases b <;> rfl).trans (credit_slab b 0)

end Cert.Ring

end
-- ==== Proof.Mul.lean ====
/-
# Partial products

The two row blocks of the left factor that a device holds at a time, idle or being filled, and the rule for one partial
product: wait for the rows, multiply them by both halves of the right factor, and store both tiles.
-/
module

public import proofs.«01_k».proof.Proof.Offsets

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-- Slot `s` of the row blocks before its copy of round `r` has been started, with all the rows it is to hold. -/
def idle (m : (ℓ : Loc nD τ sig) → Buf (Elt F) ℓ) (c : Dev nD) (s : Fin 2) (r : ℕ) : sProp 𝕄 :=
  iprop(st (aC c s) r ∗ (∃ X, slab c wM s X) ∗ (bigSep (Finset.Ico r 4) fun u => dutyTok ER (aC c s) u false)
    ∗ bigSep (Finset.range 4) fun u => rows m c (workChunk c s u))
/-- Slot `s` while its copy of round `r` is under way and has those rows. -/
def busy (m : (ℓ : Loc nD τ sig) → Buf (Elt F) ℓ) (c : Dev nD) (s : Fin 2) (r : ℕ) : sProp 𝕄 :=
  iprop(st (aC c s) r ∗ cred (tallyAt (aC c s) r N) ∗ (bigSep (Finset.Ico (r + 1) 4) fun u => dutyTok ER (aC c s) u false)
    ∗ bigSep ((Finset.range 4).erase r) fun u => rows m c (workChunk c s u))
/-- Both tiles of chunk `k`, whatever they hold. -/
def blank (c : Dev nD) (k : Fin 8) : sProp 𝕄 := iprop((∃ X, tile c k false X) ∗ (∃ X, tile c k true X))
/-- Tile `(k, h)` holding device `c`'s partial product. -/
abbrev made (m : (ℓ : Loc nD τ sig) → Buf (Elt F) ℓ) (c : Dev nD) (k : Fin 8) (h : Bool) : sProp 𝕄 := tile c k h (part m c k h)

/-- One chunk of rows apart from the others of its slot. -/
theorem rows_out (c : Dev nD) (s : Fin 2) {r : ℕ} (hr : r < 4) : (bigSep (Finset.range 4) fun u => rows m c (workChunk c s u))
    = iprop(rows m c (workChunk c s r) ∗ bigSep ((Finset.range 4).erase r) fun u => rows m c (workChunk c s u)) :=
  BI.bigSep_erase (Finset.mem_range.mpr hr)

/-- A program that only returns `a` ends with what holds of `a`. -/
theorem runs_ret (c : Dev nD) {a : α} : Q a ⊢ runs c (Prog.ret a) Q := by
  unfold runs; rw [wp_ret]; iintro H; imodintro; iexact H

/-- One part of a program, then the rest. -/
theorem runs_bind (c : Dev nD) {β : Type} {p : Prog (TpuEff nD τ sig (Elt F) Λ₀ .tc) β} {k : β → Prog (TpuEff nD τ sig (Elt F) Λ₀ .tc) α} {P R : sProp 𝕄}
    (h : P ⊢ runs c p fun _ => R) : P ⊢ iprop((∀ x, R -∗ runs c (k x) Q) -∗ runs c (p >>= k) Q) := by
  unfold runs; rw [wp_bind]
  iintro HP Hk
  iapply (wp_wand_r _ _ _)
  isplitl [HP]
  · iapply h; iexact HP
  iintro %x HR
  iapply Hk; iexact HR

/-- Starting the copy of round `r`. -/
theorem mul_start (c : Dev nD) (s : Fin 2) {r : ℕ} (hr : r < 4)
    {src : Memref sig .tc .hbm S512x2048 .bf16} (hs : src = rowsM (workChunk c s r))
    {dst : Memref sig .tc .vmem S512x2048 .bf16} (hd : dst = slabM wM s) {sm : DmaSem sig} (hsm : sm = qA s)
    {hsrc : src.view.WordExact} {hdst : dst.view.WordExact} {hsem : DmaTarget.Typed (nD := nD) (τ := τ) (p := Proc.tc) .hbm (.dma sm) (.here (p := Proc.tc) dst)}
    {k : PUnit → Prog (TpuEff nD τ sig (Elt F) Λ₀ .tc) α} :
    iprop(records m ∗ idle m c s r)
      ⊢ iprop((busy m c s r -∗ runs c (k ⟨⟩) Q)
        -∗ runs c (.op (.enqueueDma src (.here dst) (.dma sm) hsrc hdst hsem) k) Q) := by
  unfold idle busy st
  rw [ico_first hr, rows_out c s hr]
  iintro ⟨#HR, ⟨Hat, #Hr⟩, HX, ⟨Ht, Hts⟩, Hrow, Hrows⟩ Hk
  iapply (copy_rows c s hr rfl hs hd hsm) $$ [Hrow HX Ht]
  · isplitr; · iapply (rec_inv _ (kcell_A c s)); iexact HR
    isplitl [Hrow]; · iexact Hrow
    isplitl [HX]; · iexact HX
    isplitl [Ht]; · iexact Ht
    iexact Hr
  iintro Hc
  iapply Hk
  isplitl [Hat]
  · isplitl [Hat]; · iexact Hat
    iexact Hr
  isplitl [Hc]; · iexact Hc
  isplitl [Hts] <;> iassumption

/-- One partial product. -/
theorem mul_block (c : Dev nD) (s : Fin 2) {r : ℕ} (hr : r < 4) (p p' : Vec F S1x512x2048 .bf16 → Vec F S2048x2048 .bf16 → FVec F S512x2048 .bf16)
    (hp : ∀ v w, p v w = k0_pay10 v w) (hp' : ∀ v w, p' v w = k0_pay10 v w)
    {src : Memref sig .tc .hbm S512x2048 .bf16} {dst : Memref sig .tc .vmem S512x2048 .bf16} (hN : dst.view.dmaCredit = N)
    {sm : DmaSem sig} (hsm : sm = qA s) {O : CellTallies nD τ sig ℕ} (hO : Above 0 O)
    {o : Fin 3 → ℕ} (ho : o = ![s.val, 0, 0]) {inb : ∀ a, o a + S1x512x2048.size a ≤ S2x512x2048.size a}
    {o₁ o₁' : Fin 2 → ℕ} (ho₁ : o₁ = ![0, 2048 * (false : Bool).toNat]) (ho₁' : o₁' = ![0, 2048 * (true : Bool).toNat])
    {inb₁ : ∀ a, o₁ a + S2048x2048.size a ≤ S2048x4096.size a} {inb₁' : ∀ a, o₁' a + S2048x2048.size a ≤ S2048x4096.size a}
    {o₂ o₂' : Fin 2 → ℕ} (ho₂ : o₂ = ![512 * (workChunk c s r).val, 2048 * (false : Bool).toNat]) (ho₂' : o₂' = ![512 * (workChunk c s r).val, 2048 * (true : Bool).toNat])
    {inb₂ : ∀ a, o₂ a + S512x2048.size a ≤ S4096x4096.size a} {inb₂' : ∀ a, o₂' a + S512x2048.size a ≤ S4096x4096.size a}
    {hsrc : src.view.WordExact} {hdst : dst.view.WordExact}
    {hl : wM.view.LoadsAt (Rect.unit (s := S2x512x2048) o S1x512x2048.size inb).toLoadRect}
    {hl₁ : bM.view.LoadsAt (Rect.unit (s := S2048x4096) o₁ S2048x2048.size inb₁).toLoadRect}
    {hl₁' : bM.view.LoadsAt (Rect.unit (s := S2048x4096) o₁' S2048x2048.size inb₁').toLoadRect}
    {hl₂ : oM.view.LoadsAt (Rect.unit (s := S4096x4096) o₂ S512x2048.size inb₂).toLoadRect}
    {hl₂' : oM.view.LoadsAt (Rect.unit (s := S4096x4096) o₂' S512x2048.size inb₂').toLoadRect}
    {hx : (oM.access (Rect.unit (s := S4096x4096) o₂ S512x2048.size inb₂)).Stores Finset.univ}
    {hm : (Finset.univ : Finset (Rect.unit (s := S4096x4096) o₂ S512x2048.size inb₂).shape.Idx) = Finset.univ ∨ ∀ a, (Rect.unit (s := S4096x4096) o₂ S512x2048.size inb₂).stride a = 1}
    {hx' : (oM.access (Rect.unit (s := S4096x4096) o₂' S512x2048.size inb₂')).Stores Finset.univ}
    {hm' : (Finset.univ : Finset (Rect.unit (s := S4096x4096) o₂' S512x2048.size inb₂').shape.Idx) = Finset.univ ∨ ∀ a, (Rect.unit (s := S4096x4096) o₂' S512x2048.size inb₂').stride a = 1}
    {k : PUnit → Prog (TpuEff nD τ sig (Elt F) Λ₀ .tc) α} :
    iprop(records m ∗ levAts L lv ∗ ow c O ∗ busy m c s r ∗ fac m c ∗ blank c (workChunk c s r))
      ⊢ iprop((iprop(ow c O ∗ idle m c s (r + 1) ∗ fac m c
            ∗ made m c (workChunk c s r) false ∗ made m c (workChunk c s r) true) -∗ runs c (k ⟨⟩) Q)
        -∗ runs c (.op (.waitDma2 sm src dst hsrc hdst) fun _ =>
            .op (.load wM (Rect.unit (s := S2x512x2048) o S1x512x2048.size inb).toLoadRect hl) fun v =>
            .op (.load bM (Rect.unit (s := S2048x4096) o₁ S2048x2048.size inb₁).toLoadRect hl₁) fun w =>
            .op (.load oM (Rect.unit (s := S4096x4096) o₂ S512x2048.size inb₂).toLoadRect hl₂) fun _ =>
            .op (.store oM (Rect.unit (s := S4096x4096) o₂ S512x2048.size inb₂) (p v w) Finset.univ hx hm) fun _ =>
            .op (.load bM (Rect.unit (s := S2048x4096) o₁' S2048x2048.size inb₁').toLoadRect hl₁') fun w' =>
            .op (.load oM (Rect.unit (s := S4096x4096) o₂' S512x2048.size inb₂').toLoadRect hl₂') fun _ =>
            .op (.store oM (Rect.unit (s := S4096x4096) o₂' S512x2048.size inb₂') (p' v w') Finset.univ hx' hm') k) Q) := by
  unfold idle busy blank
  rw [rows_out c s hr]
  iintro ⟨#HR, #Hl, HO, ⟨Hst, Hc, Hts, Hrows⟩, HB, ⟨%X, HX⟩, ⟨%Y, HY⟩⟩ Hk
  iapply (wait_dma c hsm (by rw [rounds_A]; exact hr) (by omega) (pay_A m c false s r) (hO.mono (lv_A c s r).le) hN) $$ [HO Hst Hc]
  · isplitr; · iapply (rec_inv _ (kcell_A c s)); iexact HR
    isplitl [Hc]; · iexact Hc
    isplitl [HO]; · iexact HO
    isplitr; · iexact Hl
    iexact Hst
  unfold copyPay
  iintro ⟨HO, Hst, HW, Hrow⟩
  iapply (load_slab c wM s ho) $$ HW
  iintro HW
  iapply (load_half c false ho₁) $$ HB
  iintro HB
  iapply (load_tile c _ false ho₂) $$ HX
  iintro HX
  iapply (store_tile c _ false ho₂) $$ HX
  iintro HX
  iapply (load_half c true ho₁') $$ HB
  iintro HB
  iapply (load_tile c _ true ho₂') $$ HY
  iintro HY
  iapply (store_tile c _ true ho₂') $$ HY
  iintro HY
  iapply Hk
  rw [hp, hp']
  isplitl [HO]; · iexact HO
  isplitl [Hst HW Hts Hrow Hrows]
  · isplitl [Hst]; · iexact Hst
    isplitl [HW]; · iexists _; iexact HW
    isplitl [Hts]; · iexact Hts
    isplitl [Hrow] <;> iassumption
  isplitl [HB]; · iexact HB
  isplitl [HX]; · iexact HX
  iexact HY

/-- The same product, printed again. -/
theorem pay5_eq (v : Vec F S1x512x2048 .bf16) (w : Vec F S2048x2048 .bf16) : k0_pay5 v w = k0_pay10 v w := rfl
/-- The same product, printed again. -/
theorem pay6_eq (v : Vec F S1x512x2048 .bf16) (w : Vec F S2048x2048 .bf16) : k0_pay6 v w = k0_pay10 v w := rfl
/-- The same product, printed again. -/
theorem pay3_eq (v : Vec F S1x512x2048 .bf16) (w : Vec F S2048x2048 .bf16) : k0_pay3 v w = k0_pay10 v w := rfl
/-- The same product, printed again. -/
theorem pay7_eq (v : Vec F S1x512x2048 .bf16) (w : Vec F S2048x2048 .bf16) : k0_pay7 (k0_pay2 v) w = k0_pay10 v w := rfl
/-- The same product, printed again. -/
theorem pay11_eq (v : Vec F S1x512x2048 .bf16) (w : Vec F S2048x2048 .bf16) : k0_pay11 v w = k0_pay10 v w := rfl
/-- The same sum, printed again. -/
theorem pay8_eq (v : Vec F S512x2048 .bf16) (w : Vec F S1x512x2048 .bf16) : k0_pay8 v w = k0_pay1 v w := rfl

end Cert.Ring

end
-- ==== Proof.Data.lean ====
/-
# What a device holds between steps

The tiles of the result that carry sums, the partial products made ahead, the tiles still to be filled and the landing
slots, before each step; and how one step moves them on.
-/
module

public import proofs.«01_k».proof.Proof.Mul

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-! ## Tiles that carry sums -/

/-- The oldest step whose tile is still held before step `t`. -/
abbrev lo (t : ℕ) : ℕ := min (t - 6) 7
/-- The tile that direction `b` sends at step `u`, with what it sends. -/
abbrev sum (m : (ℓ : Loc nD τ sig) → Buf (Elt F) ℓ) (b : Bool) (c : Dev nD) (u : ℕ) : sProp 𝕄 := tile c (chunk b c u) b (val m b u c)
/-- The tiles of direction `b` before step `t`: those of the steps so far that have not been given away again. -/
def acc (m : (ℓ : Loc nD τ sig) → Buf (Elt F) ℓ) (b : Bool) (c : Dev nD) (t : ℕ) : sProp 𝕄 := bigSep (Finset.Ico (lo t) (t + 1)) (sum m b c)
/-- The same without the tile being sent. -/
def past (m : (ℓ : Loc nD τ sig) → Buf (Elt F) ℓ) (b : Bool) (c : Dev nD) (t : ℕ) : sProp 𝕄 := bigSep (Finset.Ico (lo t) t) (sum m b c)

/-- The tile being sent, apart. -/
theorem acc_last (b : Bool) (c : Dev nD) {t : ℕ} : acc m b c t = iprop(sum m b c t ∗ past m b c t) :=
  ico_last (by unfold lo; omega) _

/-- The next tile joins; from step `6` on the oldest is given away as the next place to receive in. -/
theorem acc_next (b : Bool) (c : Dev nD) {t : ℕ} (ht : t < 14) :
    iprop(sum m b c (t + 1) ∗ sum m b c t ∗ past m b c t) ⊢ iprop(acc m b c (t + 1) ∗ if t < 6 then emp else spot b c (t + 1)) := by
  rw [← acc_last, acc_last (t := t + 1)]
  unfold acc past
  by_cases h6 : t < 6
  · rw [if_pos h6, show lo (t + 1) = lo t by unfold lo; omega]
    iintro ⟨H, Hp⟩
    isplitl
    · isplitl [H] <;> iassumption
    iempintro
  · rw [if_neg h6]
    unfold spot
    by_cases h13 : t + 1 < 14
    · rw [if_pos h13, ico_first (show lo t < t + 1 by unfold lo; omega), show lo t + 1 = lo (t + 1) by unfold lo; omega]
      iintro ⟨H, Ho, Hp⟩
      isplitl [H Hp]
      · isplitl [H] <;> iassumption
      iexists (val m b (lo t) c)
      unfold landing
      rw [if_neg (by omega), show t + 1 + 1 = lo t + 8 by unfold lo; omega, chunk_back b c (by unfold lo; omega)]
      iexact Ho
    · rw [if_neg h13, show lo (t + 1) = lo t by unfold lo; omega]
      iintro ⟨H, Hp⟩
      isplitl
      · isplitl [H] <;> iassumption
      iempintro

/-! ## Landing slots -/

/-- A landing slot of direction `b`, whatever it holds. -/
abbrev anySlab (F : FTy → Type) [FloatOps F] (b : Bool) (c : Dev nD) (t : ℕ) : sProp (MM F) := iprop(∃ X, slab (F := F) c (cM b) (slot t) X)
/-- The landing slots held before step `t ≤ 7`: that of the next step, at the end both. -/
def lands (F : FTy → Type) [FloatOps F] (b : Bool) (c : Dev nD) (t : ℕ) : sProp (MM F) := iprop(anySlab F b c (t + 1) ∗ if t < 7 then emp else anySlab F b c t)

/-- The landing slot just emptied is kept, and before the last sum the other one is given away to receive in. -/
theorem lands_next (b : Bool) (c : Dev nD) {t : ℕ} (ht : t < 7) :
    iprop(lands F b c t ∗ anySlab F b c t) ⊢ iprop(lands F b c (t + 1) ∗ if t < 6 then spot b c (t + 1) else emp) := by
  unfold lands anySlab spot
  rw [if_pos ht, if_pos (show t + 1 < 14 by omega), slot_add_two]
  by_cases h6 : t < 6
  · rw [if_pos h6, if_pos (by omega)]
    have hl : ∀ X, landing (F := F) b c (t + 1) X = slab c (cM b) (slot (t + 1)) X := fun X => if_pos (by omega)
    simp only [hl]
    iintro ⟨⟨H, -⟩, H'⟩
    isplitl [H']
    · isplitl [H']; · iexact H'
      iempintro
    iexact H
  · rw [if_neg h6, if_neg (by omega)]
    iintro ⟨⟨H, -⟩, H'⟩
    isplitl
    · isplitl [H'] <;> iassumption
    iempintro

/-- One direction's data across a step of the first loop. -/
theorem data_next (b : Bool) (c : Dev nD) {t : ℕ} (ht : t < 7) :
    iprop((sum m b c (t + 1) ∗ sum m b c t ∗ past m b c t) ∗ lands F b c t ∗ anySlab F b c t)
      ⊢ iprop(acc m b c (t + 1) ∗ lands F b c (t + 1) ∗ spot b c (t + 1)) := by
  iintro ⟨H, H'⟩
  ihave H := (acc_next b c (by omega)) $$ H
  ihave H' := (lands_next b c ht) $$ H'
  by_cases h6 : t < 6
  · rw [if_pos h6, if_pos h6]
    icases H with ⟨H, -⟩
    icases H' with ⟨H', Hs⟩
    isplitl [H]; · iexact H
    isplitl [H'] <;> iassumption
  · rw [if_neg h6, if_neg h6]
    icases H with ⟨H, Hs⟩
    icases H' with ⟨H', -⟩
    isplitl [H]; · iexact H
    isplitl [H'] <;> iassumption

/-! ## Partial products still to be made, and made ahead -/

/-- Partial products that direction `b` made on the way for the other direction to use later. -/
def ahead (m : (ℓ : Loc nD τ sig) → Buf (Elt F) ℓ) (b : Bool) (c : Dev nD) (t : ℕ) : sProp 𝕄 :=
  bigSep (Finset.Ico 1 (min (t + 1) (8 - t))) fun u => made m c (chunk b c u) (!b)
/-- Chunks of which nothing has been made. -/
def fresh (F : FTy → Type) [FloatOps F] (b : Bool) (c : Dev nD) (t : ℕ) : sProp (MM F) :=
  bigSep (Finset.Ico (t + 1) (if b then 4 else 5)) fun u => blank c (chunk b c u)
/-- Both slots of row blocks before step `t`. -/
def slots (m : (ℓ : Loc nD τ sig) → Buf (Elt F) ℓ) (c : Dev nD) (t : ℕ) : sProp 𝕄 :=
  if t < 4 then iprop(idle m c 0 (t + 1) ∗ busy m c 1 t) else iprop(idle m c 0 4 ∗ idle m c 1 4)
/-- All that concerns partial products before step `t`. -/
def work (m : (ℓ : Loc nD τ sig) → Buf (Elt F) ℓ) (c : Dev nD) (t : ℕ) : sProp 𝕄 :=
  iprop(slots m c t ∗ fresh F false c t ∗ fresh F true c t ∗ ahead m false c t ∗ ahead m true c t)
/-- The partial products that step `t` adds. -/
abbrev need (m : (ℓ : Loc nD τ sig) → Buf (Elt F) ℓ) (b : Bool) (c : Dev nD) (t : ℕ) : sProp 𝕄 := made m c (chunk b c (t + 1)) b

/-- A chunk of each direction is made whole: each direction uses one tile of its own and keeps the other. -/
theorem ahead_more (b : Bool) (c : Dev nD) {t : ℕ} (ht : t < 3) :
    iprop(ahead m b c t ∗ made m c (chunk b c (t + 1)) (!b)) ⊢ ahead m b c (t + 1) := by
  unfold ahead
  rw [show min (t + 1) (8 - t) = t + 1 by omega, show min (t + 1 + 1) (8 - (t + 1)) = t + 1 + 1 by omega, ico_last (a := 1) (b := t + 1) (by omega)]
  iintro ⟨Ha, Hb⟩
  isplitl [Hb] <;> iassumption
/-- Later on each direction uses what the other made ahead. -/
theorem ahead_less (b : Bool) (c : Dev nD) {t : ℕ} (h3 : 3 < t) (ht : t < 7) :
    ahead m b c t ⊢ iprop(ahead m b c (t + 1) ∗ need m (!b) c t) := by
  unfold ahead
  rw [show min (t + 1) (8 - t) = 7 - t + 1 by omega, show min (t + 1 + 1) (8 - (t + 1)) = 7 - t by omega, ico_last (a := 1) (b := 7 - t) (by omega),
    show chunk b c (7 - t) = chunk (!b) c (t + 1) by
      rw [show 7 - t = 8 - (t + 1) by omega]; simpa only [Bool.not_not] using chunk_other (!b) c (t := t + 1) (by omega)]
  iintro ⟨Hb, Ha⟩
  isplitl [Ha] <;> iassumption
/-- At step `3` both directions meet in one chunk. -/
theorem ahead_same (b : Bool) (c : Dev nD) {t : ℕ} (h : t = 3) : ahead m b c t ⊢ ahead m b c (t + 1) := by
  subst h; exact .rfl
/-- That chunk, as each direction counts it. -/
theorem chunk_meet (c : Dev nD) {t : ℕ} (h : t = 3) : chunk true c (t + 1) = chunk false c (t + 1) := by
  subst h; exact chunk_other false c (t := 4) (by omega)
/-- The next blank chunk, apart. -/
theorem fresh_first (b : Bool) (c : Dev nD) {t : ℕ} (h : t + 1 < if b then 4 else 5) :
    fresh F b c t = iprop(blank c (chunk b c (t + 1)) ∗ fresh F b c (t + 1)) := ico_first h _
/-- No blank chunks are left. -/
theorem fresh_none (b : Bool) (c : Dev nD) {t : ℕ} (h : (if b then 4 else 5) ≤ t + 1) : fresh F b c t = iprop(emp) := ico_nil h _

/-- No blank chunks are left at the next step either. -/
theorem fresh_stay (b : Bool) (c : Dev nD) {t : ℕ} (h : (if b then 4 else 5) ≤ t + 1) : fresh F b c t ⊢ fresh F b c (t + 1) := by
  rw [fresh_none b c h, fresh_none b c (t := t + 1) (by omega)]
/-- What a step works with, part by part. -/
theorem work_def (m : (ℓ : Loc nD τ sig) → Buf (Elt F) ℓ) (c : Dev nD) (t : ℕ) : work m c t
    = iprop(slots m c t ∗ fresh F false c t ∗ fresh F true c t ∗ ahead m false c t ∗ ahead m true c t) := rfl
/-- The slots of the rows while copies are under way. -/
theorem slots_early (m : (ℓ : Loc nD τ sig) → Buf (Elt F) ℓ) (c : Dev nD) {t : ℕ} (h : t < 4) : slots m c t = iprop(idle m c 0 (t + 1) ∗ busy m c 1 t) := if_pos h
/-- The slots of the rows when all copies are done. -/
theorem slots_late (m : (ℓ : Loc nD τ sig) → Buf (Elt F) ℓ) (c : Dev nD) {t : ℕ} (h : ¬ t < 4) : slots m c t = iprop(idle m c 0 4 ∗ idle m c 1 4) := if_neg h

end Cert.Ring

end
-- ==== Proof.Pieces.lean ====
/-
# Buffers as the pieces the ring works with

A device's left factor as its eight blocks of rows, the result as its sixteen tiles, a two-slot buffer as its slots; and a
family over the eight chunks in the order a direction comes to them.
-/
module

public import proofs.«01_k».proof.Proof.Data

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-! ## The chunks in order -/

/-- A family over all chunks, listed without repetition by `f` over `s`. -/
theorem bigSep_listed (s : Finset ℕ) (f : ℕ → Fin 8) (hinj : ∀ x ∈ s, ∀ y ∈ s, f x = f y → x = y) (Φ : Fin 8 → sProp 𝕄) :
    bigSep (s.image f) Φ = bigSep s fun u => Φ (f u) := Finset.fold_image hinj

/-- All chunks: four as one direction comes to them, four as the other does. -/
theorem around8 (c : Dev nD) (Φ : Fin 8 → sProp 𝕄) : bigSep Finset.univ Φ
    = iprop((bigSep (Finset.range 4) fun u => Φ (chunk true c u)) ∗ bigSep (Finset.range 4) fun u => Φ (chunk false c (u + 1))) := by
  have hU : (Finset.univ : Finset (Fin 8)) = (Finset.range 4).image (chunk true c) ∪ (Finset.range 4).image (fun u => chunk false c (u + 1)) := by
    revert c; decide
  have hD : Disjoint ((Finset.range 4).image (chunk true c)) ((Finset.range 4).image (fun u => chunk false c (u + 1))) := by
    revert c; decide
  rw [hU, BI.bigSep_union hD, bigSep_listed _ _ (by revert c; decide), bigSep_listed _ _ (by revert c; decide)]
  rfl

/-- All chunks as the last eight steps of a direction name them. -/
theorem around_end (b : Bool) (c : Dev nD) (Φ : Fin 8 → sProp 𝕄) :
    bigSep (Finset.Ico 7 15) (fun u => Φ (chunk b c u)) = bigSep Finset.univ Φ := by
  rw [← bigSep_listed _ (chunk b c) (by revert b c; decide)]
  congr 1; revert b c; decide

/-- The step among the last eight at which direction `b` of device `c` holds chunk `k`. -/
def lastAt (b : Bool) (c : Dev nD) (k : Fin 8) : ℕ := 7 + (if b then k.val + 9 - cyc c else cyc c + 9 - k.val) % 8

/-- A chunk's last step is the step that sends it then. -/
theorem lastAt_chunk (b : Bool) (c : Dev nD) : ∀ u ∈ Finset.Ico 7 15, lastAt b c (chunk b c u) = u := by
  revert b c; decide

/-- Both halves of every chunk. -/
theorem bigSep_halves (Φ : Fin 8 × Bool → sProp 𝕄) : bigSep Finset.univ Φ
    = bigSep Finset.univ fun k => iprop(Φ (k, false) ∗ Φ (k, true)) := by
  rw [BI.bigSep_univ_prod]
  refine BI.bigSep_congr fun k _ => ?_
  rw [show (Finset.univ : Finset Bool) = insert false {true} from by decide, BI.bigSep_insert (by decide), BI.bigSep_singleton]
  rfl

/-! ## The left factor -/

/-- Different chunks of rows do not meet. -/
theorem rowsR_disj (k k' : Fin 8) (h : k ≠ k') : Disjoint (rowsR k).set (rowsR k').set := by
  have : k.val ≠ k'.val := fun e => h (Fin.ext e)
  refine Rect.unit_disjoint 0 ?_
  show 512 * k.val + 512 ≤ 512 * k'.val ∨ 512 * k'.val + 512 ≤ 512 * k.val
  omega

/-- The chunks are all the rows. -/
theorem rowsR_cover : (Finset.univ : Finset (Fin 8)).biUnion (fun k => (rowsR k).set) = Finset.univ := by
  refine Finset.eq_univ_of_forall fun i => Finset.mem_biUnion.mpr ?_
  have h0 : (i 0).val < 4096 := (i 0).isLt
  have h1 : (i 1).val < 2048 := (i 1).isLt
  refine ⟨⟨(i 0).val / 512, by omega⟩, Finset.mem_univ _, Rect.mem_set_unit.mpr fun a => ?_⟩
  fin_cases a
  · show 512 * ((i 0).val / 512) ≤ (i 0).val ∧ (i 0).val < 512 * ((i 0).val / 512) + 512; omega
  · show 0 ≤ (i 1).val ∧ (i 1).val < 0 + 2048; omega

/-- Device `c`'s left factor as its blocks of rows, as its two slots use them. -/
theorem left_split (c : Dev nD) : (((c : Thread nD τ).loc main_arg0) ↦{fullShare} m ((c : Thread nD τ).loc main_arg0) : sProp 𝕄)
    ⊢ iprop((bigSep (Finset.range 4) fun u => rows m c (workChunk c 0 u)) ∗ bigSep (Finset.range 4) fun u => rows m c (workChunk c 1 u)) := by
  refine (Entails.of_eq (owns_whole (c : Thread nD τ) main_arg0 fullShare (m ((c : Thread nD τ).loc main_arg0))).symm).trans ?_
  refine (owns_rects (c : Thread nD τ) aM fullShare rowsR (fun _ _ => rfl) rowsR_disj rowsR_cover _).trans ?_
  exact Entails.of_eq (around8 c (rows m c))

/-- and back. -/
theorem left_join (c : Dev nD) :
    iprop((bigSep (Finset.range 4) fun u => rows m c (workChunk c 0 u)) ∗ bigSep (Finset.range 4) fun u => rows m c (workChunk c 1 u))
    ⊢ (((c : Thread nD τ).loc main_arg0) ↦{fullShare} m ((c : Thread nD τ).loc main_arg0) : sProp 𝕄) := by
  refine BIBase.Entails.trans ?_ (Entails.of_eq (owns_whole (c : Thread nD τ) main_arg0 fullShare (m ((c : Thread nD τ).loc main_arg0))))
  refine BIBase.Entails.trans ?_ (owns_of_rects (c : Thread nD τ) aM fullShare rowsR (fun _ _ => rfl) rowsR_disj rowsR_cover _)
  exact Entails.of_eq (around8 c (rows m c)).symm

/-! ## The result -/

/-- Different tiles do not meet. -/
theorem tileR_disj (t t' : Fin 8 × Bool) (h : t ≠ t') : Disjoint (tileR t.1 t.2).set (tileR t'.1 t'.2).set := by
  obtain ⟨k, x⟩ := t; obtain ⟨k', x'⟩ := t'
  by_cases hk : k = k'
  · refine Rect.unit_disjoint 1 ?_
    show 2048 * x.toNat + 2048 ≤ 2048 * x'.toNat ∨ 2048 * x'.toNat + 2048 ≤ 2048 * x.toNat
    cases x <;> cases x'
    · exact absurd (by rw [hk]) h
    · left; decide
    · right; decide
    · exact absurd (by rw [hk]) h
  · have : k.val ≠ k'.val := fun e => hk (Fin.ext e)
    refine Rect.unit_disjoint 0 ?_
    show 512 * k.val + 512 ≤ 512 * k'.val ∨ 512 * k'.val + 512 ≤ 512 * k.val
    omega

/-- The tile that row `i` and column `j` lie in. -/
theorem tileR_mem (i : S4096x4096.Idx) (k : Fin 8) (h : Bool) (hk : (i 0).val / 512 = k.val) (hh : (i 1).val / 2048 = h.toNat) : i ∈ (tileR k h).set := by
  refine Rect.mem_set_unit.mpr fun a => ?_
  fin_cases a
  · show 512 * k.val ≤ (i 0).val ∧ (i 0).val < 512 * k.val + 512; omega
  · show 2048 * h.toNat ≤ (i 1).val ∧ (i 1).val < 2048 * h.toNat + 2048; omega

/-- The tiles are the whole result. -/
theorem tileR_cover : (Finset.univ : Finset (Fin 8 × Bool)).biUnion (fun t => (tileR t.1 t.2).set) = Finset.univ := by
  refine Finset.eq_univ_of_forall fun i => Finset.mem_biUnion.mpr ?_
  have h0 : (i 0).val < 4096 := (i 0).isLt
  have h1 : (i 1).val < 4096 := (i 1).isLt
  refine ⟨(⟨(i 0).val / 512, by omega⟩, decide (2048 ≤ (i 1).val)), Finset.mem_univ _, tileR_mem i _ _ rfl ?_⟩
  by_cases h : 2048 ≤ (i 1).val
  · rw [decide_eq_true h]; show (i 1).val / 2048 = 1; omega
  · rw [decide_eq_false h]; show (i 1).val / 2048 = 0; omega

/-- The result of device `c`, every tile as the last eight steps leave it. -/
def outAt (m : (ℓ : Loc nD τ sig) → Buf (Elt F) ℓ) (c : Dev nD) : S4096x4096.Idx → Elt F .bf16 :=
  Rect.glue (fun t : Fin 8 × Bool => tileR t.1 t.2) tileR_cover fun t => val m t.2 (lastAt t.2 c t.1) c

/-- What the result holds in a tile. -/
theorem outAt_tile (c : Dev nD) (k : Fin 8) (h : Bool) : (fun j => outAt m c ((tileR k h).emb j)) = val m h (lastAt h c k) c :=
  funext fun j => Rect.glue_emb (fun t : Fin 8 × Bool => tileR t.1 t.2) tileR_cover tileR_disj
    (fun t => val m t.2 (lastAt t.2 c t.1) c) (k, h) j

/-- The result's buffer as blank tiles. -/
theorem result_split (c : Dev nD) (X : S4096x4096.Idx → Elt F .bf16) :
    (owns (c : Thread nD τ) oM fullShare X : sProp 𝕄) ⊢ bigSep Finset.univ fun k => blank (F := F) c k := by
  refine (owns_rects (c : Thread nD τ) oM fullShare (fun t : Fin 8 × Bool => tileR t.1 t.2) (fun _ _ => rfl) tileR_disj tileR_cover X).trans ?_
  rw [bigSep_halves]
  have h : ∀ k, iprop(tile c k false (fun j => X ((tileR k false).emb j)) ∗ tile c k true fun j => X ((tileR k true).emb j)) ⊢ blank (F := F) c k := fun k => by
    unfold blank
    iintro ⟨H, H'⟩
    isplitl [H]
    · iexists (fun j => X ((tileR k false).emb j)); iexact H
    · iexists (fun j => X ((tileR k true).emb j)); iexact H'
  exact BI.bigSep_mono fun k _ => h k

/-- The result's buffer from what both directions hold at the end. -/
theorem result_join (c : Dev nD) : iprop(acc m false c 14 ∗ acc m true c 14) ⊢ (owns (c : Thread nD τ) oM fullShare (outAt m c) : sProp 𝕄) := by
  refine BIBase.Entails.trans ?_ (owns_of_rects (c : Thread nD τ) oM fullShare (fun t : Fin 8 × Bool => tileR t.1 t.2) (fun _ _ => rfl) tileR_disj tileR_cover (outAt m c))
  have h : ∀ b, acc m b c 14 = bigSep Finset.univ fun k => tile c k b fun j => outAt m c ((tileR k b).emb j) := fun b => by
    rw [← around_end b c]
    refine BI.bigSep_congr fun u hu => ?_
    have e := outAt_tile (m := m) c (chunk b c u) b
    rw [lastAt_chunk b c u hu] at e
    exact congrArg (tile c (chunk b c u) b) e.symm
  rw [h, h, bigSep_halves]
  exact Entails.of_eq (BI.bigSep_sep Finset.univ (fun k => tile c k false _) (fun k => tile c k true _)).symm

/-! ## Two-slot buffers -/

/-- The two slots do not meet. -/
theorem slabR_disj (s s' : Fin 2) (h : s ≠ s') : Disjoint (slabR s).set (slabR s').set := by
  have : s.val ≠ s'.val := fun e => h (Fin.ext e)
  refine Rect.unit_disjoint 0 ?_
  show s.val + 1 ≤ s'.val ∨ s'.val + 1 ≤ s.val
  omega

/-- The two slots are the whole buffer. -/
theorem slabR_cover : (Finset.univ : Finset (Fin 2)).biUnion (fun s => (slabR s).set) = Finset.univ := by
  refine Finset.eq_univ_of_forall fun i => Finset.mem_biUnion.mpr ?_
  have h0 : (i 0).val < 2 := (i 0).isLt
  have h1 : (i 1).val < 512 := (i 1).isLt
  have h2 : (i 2).val < 2048 := (i 2).isLt
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 512; omega
  · show 0 ≤ (i 2).val ∧ (i 2).val < 0 + 2048; omega

/-- A memref held at some contents is its elements at some contents of its buffer. -/
theorem some_of_pts (c : Dev nD) {sp : Space} {sh sh' : Shape} {e e' : EltTy} (M : Memref sig .tc sp sh e) (M' : Memref sig .tc sp sh' e')
    {X : sh.Idx → Elt F e} (h : ∀ f, (M.view.loc (c : Thread nD τ) ↦[M.view.set]{fullShare} f : sProp 𝕄) ⊢ iprop(∃ Y, owns (c : Thread nD τ) M' fullShare Y)) :
    (owns (c : Thread nD τ) M fullShare X : sProp 𝕄) ⊢ iprop(∃ Y, owns (c : Thread nD τ) M' fullShare Y) := by
  iintro H
  ihave H' := (show (owns (c : Thread nD τ) M fullShare X : sProp 𝕄) ⊢ iprop(∃ g, ⌜M.view.read (Elt F) g = X⌝ ∗ M.view.loc (c : Thread nD τ) ↦[M.view.set]{fullShare} g) from .rfl) $$ H
  icases H' with ⟨%g, -, H⟩
  iapply (h g); iexact H

/-- A slot as a slice of its buffer. -/
theorem slab_of_slice (c : Dev nD) (M : Memref sig .tc .vmem S2x512x2048 .bf16) (s : Fin 2) {X : S1x512x2048.Idx → Elt F .bf16} :
    (owns (c : Thread nD τ) (M.slice (slabR s) (fun _ => rfl)) fullShare X : sProp 𝕄) ⊢ iprop(∃ Y, slab c M s Y) := by
  refine some_of_pts c _ _ fun f => ?_
  have hs : (M.slice (slabR s) (fun _ => rfl)).view.set = (slabM M s).view.set := (View.set_reshape _ _).symm
  iintro H
  iexists ((slabM M s).view.read (Elt F) f)
  iapply (owns_intro (c : Thread nD τ) (slabM M s) fullShare f)
  iapply (Entails.of_eq (congrArg (fun S => (M.view.loc (c : Thread nD τ) ↦[S]{fullShare} f : sProp 𝕄)) hs))
  iexact H

/-- A slot as a piece of its buffer. -/
theorem slice_of_slab (c : Dev nD) (M : Memref sig .tc .vmem S2x512x2048 .bf16) (s : Fin 2) {X : S512x2048.Idx → Elt F .bf16} :
    (slab c M s X : sProp 𝕄) ⊢ iprop(∃ Y : S1x512x2048.Idx → Elt F .bf16, owns (c : Thread nD τ) (M.slice (slabR s) (fun _ => rfl)) fullShare Y) := by
  refine some_of_pts c _ _ fun f => ?_
  have hs : (slabM M s).view.set = (M.slice (slabR s) (fun _ => rfl)).view.set := View.set_reshape _ _
  iintro H
  iexists ((M.slice (slabR s) (fun _ => rfl)).view.read (Elt F) f)
  iapply (owns_intro (c : Thread nD τ) (M.slice (slabR s) (fun _ => rfl)) fullShare f)
  iapply (Entails.of_eq (congrArg (fun S => (M.view.loc (c : Thread nD τ) ↦[S]{fullShare} f : sProp 𝕄)) hs))
  iexact H

/-- A family over both slots. -/
theorem bigSep_two (Φ : Fin 2 → sProp 𝕄) : bigSep Finset.univ Φ = iprop(Φ 0 ∗ Φ 1) := BI.bigSep_fin_two Φ

/-- A two-slot buffer as its slots. -/
theorem slabs_split (c : Dev nD) (M : Memref sig .tc .vmem S2x512x2048 .bf16) (X : S2x512x2048.Idx → Elt F .bf16) :
    (owns (c : Thread nD τ) M fullShare X : sProp 𝕄) ⊢ iprop((∃ Y, slab c M 0 Y) ∗ ∃ Y, slab c M 1 Y) := by
  refine (owns_rects (c : Thread nD τ) M fullShare slabR (fun _ _ => rfl) slabR_disj slabR_cover X).trans ?_
  rw [bigSep_two]
  iintro ⟨H, H'⟩
  isplitl [H]
  · iapply (slab_of_slice c M 0); iexact H
  · iapply (slab_of_slice c M 1); iexact H'

/-- and back. -/
theorem slabs_join (c : Dev nD) (M : Memref sig .tc .vmem S2x512x2048 .bf16) :
    iprop((∃ Y, slab c M 0 Y) ∗ ∃ Y, slab c M 1 Y) ⊢ (iprop(∃ X, owns (c : Thread nD τ) M fullShare X) : sProp 𝕄) := by
  iintro ⟨⟨%Y, H⟩, %Y', H'⟩
  ihave H := (slice_of_slab c M 0) $$ H
  ihave H' := (slice_of_slab c M 1) $$ H'
  icases H with ⟨%Z, H⟩
  icases H' with ⟨%Z', H'⟩
  iexists (Rect.glue slabR slabR_cover fun s => if s = 0 then Z else Z')
  iapply (owns_of_rects (c : Thread nD τ) M fullShare slabR (fun _ _ => rfl) slabR_disj slabR_cover _)
  have hg : ∀ s : Fin 2, (fun j => Rect.glue slabR slabR_cover (fun s => if s = 0 then Z else Z') ((slabR s).emb j)) = if s = 0 then Z else Z' :=
    fun s => funext fun j => Rect.glue_emb slabR slabR_cover slabR_disj _ s j
  iapply (Entails.of_eq (bigSep_two fun s => owns (c : Thread nD τ) (M.slice (slabR s) (fun _ => rfl)) fullShare
    (fun j => Rect.glue slabR slabR_cover (fun s => if s = 0 then Z else Z') ((slabR s).emb j))).symm)
  isplitl [H]
  · iapply (Entails.of_eq (congrArg (fun W => (owns (c : Thread nD τ) (M.slice (slabR 0) (fun _ => rfl)) fullShare W : sProp 𝕄)) ((hg 0).trans (if_pos rfl))).symm)
    iexact H
  · iapply (Entails.of_eq (congrArg (fun W => (owns (c : Thread nD τ) (M.slice (slabR 1) (fun _ => rfl)) fullShare W : sProp 𝕄)) ((hg 1).trans (if_neg (by decide)))).symm)
    iexact H'

end Cert.Ring

end
-- ==== Proof.Phase1.lean ====
/-
# A step of the first loop

Seven steps that form the sums: each device sends the sum so far in both directions, makes the partial products that it
adds next, and adds them to what has come in.
-/
module

public import proofs.«01_k».proof.Proof.Data

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-- Both sends of a step and the partial products made meanwhile. -/
theorem part2_spec (c : Dev nD) (v5 v10 v16 a a' : BitVec 32) (i : Fin k0_t1_loop.trips)
    {h0 : aM.IsWhole} {h1 : bM.IsWhole} {h2 : oM.IsWhole} {h3 : wM.IsWhole} {h4 : (cM false).IsWhole} {h5 : (cM true).IsWhole} :
    iprop(records m ∗ levAts L lv
        ∗ ow c (Ow c (i.val + 1) + sigOwe c i.val + tallyAt (rC true (nx true c) (slot i.val)) (i.val / 2) N + tallyAt (rC false (nx false c) (slot i.val)) (i.val / 2) N)
        ∗ st (stepC c) i.val ∗ ready false c i.val ∗ ready true c i.val ∗ sum m false c i.val ∗ sum m true c i.val ∗ fac m c ∗ work m c i.val)
      ⊢ runs c (k0_part2 (F := F) aM h0 bM h1 oM h2 wM h3 (cM false) h4 (cM true) h5 cc0_scratch3 cc0_scratch4 cc0_scratch5 cc0_scratch6 cc0_scratch7 cc0_scratch8
          c v5 v10 v16 a a' i) fun _ =>
        iprop(owAt c i.val ∗ st (stepC c) i.val ∗ flying false c i.val ∗ flying true c i.val ∗ fac m c ∗ work m c (i.val + 1)
          ∗ need m false c i.val ∗ need m true c i.val) := by
  have hi : i.val < 7 := i.isLt
  rw [k0_part2_eq_skeleton]
  unfold k0_part2_skel
  simp only [Prog.lift, Prog.bind_op, Prog.bind_ret, Prog.pure_eq_ret]
  iintro ⟨#HR, #Hl, HO, Hst, Hrf, Hrb, Hsf, Hsb, HB, HW⟩
  iapply (step_send false c _ (dev3_eq c _) (t := i.val) (by omega) (slabM_eq (cM false) (slot i.val) (off6_eq i)) (tileM_eq _ false (off7_eq c i))
    (pick_SF _ (off5_eq i)) (pick_RF _ (off5_eq i)) (fun X => if_pos hi) (credit_slab false _)) $$ [HO Hst Hrf Hsf]
  · isplitr; · iexact HR
    isplitl [HO]; · iexact HO
    isplitl [Hst]; · iexact Hst
    isplitl [Hrf]; · iexact Hrf
    iexact Hsf
  iintro ⟨HO, Hst, Hff⟩
  iapply (step_send true c _ (dev4_eq c _) (t := i.val) (by omega) (slabM_eq (cM true) (slot i.val) (off6_eq i)) (tileM_eq _ true (off8_eq c i))
    (pick_SB _ (off5_eq i)) (pick_RB _ (off5_eq i)) (fun X => if_pos hi) (credit_slab true _)) $$ [HO Hst Hrb Hsb]
  · isplitr; · iexact HR
    isplitl [HO]; · iexact HO
    isplitl [Hst]; · iexact Hst
    isplitl [Hrb]; · iexact Hrb
    iexact Hsb
  iintro ⟨HO, Hst, Hfb⟩
  ihave HW := (Entails.of_eq (work_def m c i.val)) $$ HW
  icases HW with ⟨HS, Hnf, Hnb, Haf, Hab⟩
  have hO : Above 0 (Ow c (i.val + 1) + sigOwe c i.val) := (above_mid c (by omega)).mono (Nat.zero_le _)
  rcases (by omega : i.val < 3 ∨ i.val = 3 ∨ 3 < i.val) with h | h | h
  · have hc₁ := (cond1_iff i).2 (by omega)
    have hc₂ := (cond2_iff i).2 h
    have hc₃ := (cond3_iff i).2 h
    simp only [dif_pos hc₁, dif_pos hc₂, dif_pos hc₃, k0_part1_eq_skeleton]
    unfold k0_part1_skel
    simp only [Prog.lift, Prog.bind_op, Prog.bind_ret, Prog.pure_eq_ret]
    ihave HS := (Entails.of_eq (slots_early m c (t := i.val) (by omega))) $$ HS
    ihave Hnf := (Entails.of_eq (fresh_first false c (t := i.val) (by show i.val + 1 < 5; omega))) $$ Hnf
    ihave Hnb := (Entails.of_eq (fresh_first true c (t := i.val) (by show i.val + 1 < 4; omega))) $$ Hnb
    icases HS with ⟨HS0, HS1⟩
    icases Hnf with ⟨Hbf, Hnf⟩
    icases Hnb with ⟨Hbb, Hnb⟩
    iapply (mul_start c 0 (r := i.val + 1) (by omega) (rowsM_eq _ (off9_eq c i)) (slabM_eq wM 0 rfl) (pick_A 0 rfl)) $$ [HS0]
    · isplitr; · iexact HR
      iexact HS0
    iintro HS0
    iapply (mul_block c 1 (r := i.val) (by omega) k0_pay5 k0_pay6 pay5_eq pay6_eq (credit_work 1) (pick_A 1 rfl) hO rfl rfl rfl
      (off11_eq c i) (off12_eq c i)) $$ [HO HS1 HB Hbf]
    · isplitr; · iexact HR
      isplitr; · iexact Hl
      isplitl [HO]; · iexact HO
      isplitl [HS1]; · iexact HS1
      isplitl [HB]; · iexact HB
      iexact Hbf
    iintro ⟨HO, HS1, HB, Huf, Hof⟩
    iapply (mul_start c 1 (r := i.val + 1) (by omega) (rowsM_eq _ (off13_eq c i)) (slabM_eq wM 1 rfl) (pick_A 1 rfl)) $$ [HS1]
    · isplitr; · iexact HR
      iexact HS1
    iintro HS1
    iapply (mul_block c 0 (r := i.val + 1) (by omega) k0_pay3 (fun v w => k0_pay7 (k0_pay2 v) w) pay3_eq pay7_eq (credit_work 0) (pick_A 0 rfl) hO rfl rfl rfl
      (off15_eq c i) (off16_eq c i)) $$ [HO HS0 HB Hbb]
    · isplitr; · iexact HR
      isplitr; · iexact Hl
      isplitl [HO]; · iexact HO
      isplitl [HS0]; · iexact HS0
      isplitl [HB]; · iexact HB
      iexact Hbb
    iintro ⟨HO, HS0, HB, Hob, Hub⟩
    iapply runs_ret
    isplitl [HO]; · iexact HO
    isplitl [Hst]; · iexact Hst
    isplitl [Hff]; · iexact Hff
    isplitl [Hfb]; · iexact Hfb
    isplitl [HB]; · iexact HB
    isplitr [Huf Hub]
    · iapply (Entails.of_eq (work_def m c (i.val + 1)).symm)
      rw [slots_early m c (by omega)]
      isplitl [HS0 HS1]
      · isplitl [HS0] <;> iassumption
      isplitl [Hnf]; · iexact Hnf
      isplitl [Hnb]; · iexact Hnb
      isplitl [Haf Hof]
      · iapply (ahead_more false c h)
        isplitl [Haf]; · iexact Haf
        iexact Hof
      iapply (ahead_more true c h)
      isplitl [Hab]; · iexact Hab
      iexact Hob
    isplitl [Huf]; · iexact Huf
    iexact Hub
  · have hc₁ := (cond1_iff i).2 (by omega)
    have hc₂ : ¬ k0_cond2 i = 1#1 := fun h' => by have := (cond2_iff i).1 h'; omega
    have hc₃ : ¬ k0_cond3 i = 1#1 := fun h' => by have := (cond3_iff i).1 h'; omega
    simp only [dif_pos hc₁, dif_neg hc₂, dif_neg hc₃]
    ihave HS := (Entails.of_eq (slots_early m c (t := i.val) (by omega))) $$ HS
    ihave Hnf := (Entails.of_eq (fresh_first false c (t := i.val) (by show i.val + 1 < 5; omega))) $$ Hnf
    icases HS with ⟨HS0, HS1⟩
    icases Hnf with ⟨Hbf, Hnf⟩
    iapply (mul_block c 1 (r := i.val) (by omega) k0_pay5 k0_pay6 pay5_eq pay6_eq (credit_work 1) (pick_A 1 rfl) hO rfl rfl rfl
      (off11_eq c i) (off12_eq c i)) $$ [HO HS1 HB Hbf]
    · isplitr; · iexact HR
      isplitr; · iexact Hl
      isplitl [HO]; · iexact HO
      isplitl [HS1]; · iexact HS1
      isplitl [HB]; · iexact HB
      iexact Hbf
    iintro ⟨HO, HS1, HB, Huf, Hub⟩
    iapply runs_ret
    isplitl [HO]; · iexact HO
    isplitl [Hst]; · iexact Hst
    isplitl [Hff]; · iexact Hff
    isplitl [Hfb]; · iexact Hfb
    isplitl [HB]; · iexact HB
    isplitr [Huf Hub]
    · iapply (Entails.of_eq (work_def m c (i.val + 1)).symm)
      rw [slots_late m c (by omega)]
      isplitl [HS0 HS1]
      · isplitl [HS0]; · iapply (Entails.of_eq (congrArg (fun r => idle m c 0 (r + 1)) h)); iexact HS0
        iapply (Entails.of_eq (congrArg (fun r => idle m c 1 (r + 1)) h)); iexact HS1
      isplitl [Hnf]; · iexact Hnf
      isplitl [Hnb]; · iapply (fresh_stay true c (by show 4 ≤ i.val + 1; omega)); iexact Hnb
      isplitl [Haf]; · iapply (ahead_same false c h); iexact Haf
      iapply (ahead_same true c h); iexact Hab
    isplitl [Huf]; · iexact Huf
    iapply (Entails.of_eq (congrArg (fun k => made m c k true) (chunk_meet c h).symm)); iexact Hub
  · have hc₁ : ¬ k0_cond1 i = 1#1 := fun h' => by have := (cond1_iff i).1 h'; omega
    have hc₃ : ¬ k0_cond3 i = 1#1 := fun h' => by have := (cond3_iff i).1 h'; omega
    simp only [dif_neg hc₁, dif_neg hc₃]
    iapply runs_ret
    ihave Hf := (ahead_less false c h hi) $$ Haf
    icases Hf with ⟨Haf, Hub⟩
    ihave Hb := (ahead_less true c h hi) $$ Hab
    icases Hb with ⟨Hab, Huf⟩
    isplitl [HO]; · iexact HO
    isplitl [Hst]; · iexact Hst
    isplitl [Hff]; · iexact Hff
    isplitl [Hfb]; · iexact Hfb
    isplitl [HB]; · iexact HB
    isplitr [Huf Hub]
    · iapply (Entails.of_eq (work_def m c (i.val + 1)).symm)
      isplitl [HS]; · iapply (Entails.of_eq ((slots_late m c (t := i.val) (by omega)).trans (slots_late m c (t := i.val + 1) (by omega)).symm)); iexact HS
      isplitl [Hnf]; · iapply (fresh_stay false c (by show 5 ≤ i.val + 1; omega)); iexact Hnf
      isplitl [Hnb]; · iapply (fresh_stay true c (by show 4 ≤ i.val + 1; omega)); iexact Hnb
      isplitl [Haf] <;> iassumption
    isplitl [Huf]; · iexact Huf
    iexact Hub

/-- Receiving in direction `b`: what has come in is added to the partial product, which is the next sum to send. -/
theorem recv_add (b : Bool) (c : Dev nD) {t : ℕ} (ht : t < 7) (p : Vec F S512x2048 .bf16 → Vec F S1x512x2048 .bf16 → FVec F S512x2048 .bf16)
    (hp : ∀ v w, p v w = k0_pay1 v w) {sS sR : DmaSem sig} (hsS : sS = qS b (slot t)) (hsR : sR = qR b (slot t))
    {sp sp' sp₂ sp₂' : Space} {s s' s₂ s₂' : Shape} {e e' e₂ e₂' : EltTy}
    {src : Memref sig .tc sp' s' e'} {κ' : Kind} {dst : Memref sig κ' sp s e} (hN : dst.view.dmaCredit = N)
    {src₂ : Memref sig .tc sp₂' s₂' e₂'} {κ₂ : Kind} {dst₂ : Memref sig κ₂ sp₂ s₂ e₂} (hN₂ : dst₂.view.dmaCredit = N)
    {M : Memref sig .tc .vmem S2x512x2048 .bf16} (hM : M = cM b)
    {o : Fin 2 → ℕ} (ho : o = ![512 * (chunk b c (t + 1)).val, 2048 * b.toNat]) {inb : ∀ a, o a + S512x2048.size a ≤ S4096x4096.size a}
    {o' : Fin 3 → ℕ} (ho' : o' = ![(slot t).val, 0, 0]) {inb' : ∀ a, o' a + S1x512x2048.size a ≤ S2x512x2048.size a}
    {hsrc : src.view.WordExact} {hdst : dst.view.WordExact} {hsrc₂ : src₂.view.WordExact} {hdst₂ : dst₂.view.WordExact}
    {hl hl₂ : oM.view.LoadsAt (Rect.unit (s := S4096x4096) o S512x2048.size inb).toLoadRect}
    {hl' : M.view.LoadsAt (Rect.unit (s := S2x512x2048) o' S1x512x2048.size inb').toLoadRect}
    {hx : (oM.access (Rect.unit (s := S4096x4096) o S512x2048.size inb)).Stores Finset.univ}
    {hm : (Finset.univ : Finset (Rect.unit (s := S4096x4096) o S512x2048.size inb).shape.Idx) = Finset.univ ∨ ∀ a, (Rect.unit (s := S4096x4096) o S512x2048.size inb).stride a = 1}
    {k : PUnit → Prog (TpuEff nD τ sig (Elt F) Λ₀ .tc) α} :
    iprop(records m ∗ levAts L lv ∗ owAt c t ∗ flying b c t ∗ need m b c t)
      ⊢ iprop((iprop(owAt c t ∗ over b c t ∗ (sum m b c (t + 1) ∗ sum m b c t) ∗ anySlab F b c t) -∗ runs c (k ⟨⟩) Q)
        -∗ runs c (.op (.waitDma2 sS src dst hsrc hdst) fun _ => .op (.waitDma2 sR src₂ dst₂ hsrc₂ hdst₂) fun _ =>
            .op (.load oM (Rect.unit (s := S4096x4096) o S512x2048.size inb).toLoadRect hl) fun v =>
            .op (.load M (Rect.unit (s := S2x512x2048) o' S1x512x2048.size inb').toLoadRect hl') fun w =>
            .op (.load oM (Rect.unit (s := S4096x4096) o S512x2048.size inb).toLoadRect hl₂) fun _ =>
            .op (.store oM (Rect.unit (s := S4096x4096) o S512x2048.size inb) (p v w) Finset.univ hx hm) k) Q) := by
  subst hM
  iintro ⟨#HR, #Hl, HO, Hf, Hn⟩ Hk
  iapply (step_wait b c (t := t) (by omega) hsS hsR hN hN₂) $$ [HO Hf]
  · isplitr; · iexact HR
    isplitr; · iexact Hl
    isplitl [HO] <;> iassumption
  iintro ⟨HO, Hov, Hs, HX⟩
  ihave HX := (Entails.of_eq (show landing b c t (val m b t (nx (!b) c)) = slab c (cM b) (slot t) (val m b t (nx (!b) c)) from if_pos ht)) $$ HX
  iapply (load_tile c _ b ho) $$ Hn
  iintro Hn
  iapply (load_slab c (cM b) _ ho') $$ HX
  iintro HX
  iapply (load_tile c _ b ho) $$ Hn
  iintro Hn
  iapply (store_tile c _ b ho) $$ Hn
  iintro Hn
  rw [hp, ← val_add m b c ht]
  iapply Hk
  isplitl [HO]; · iexact HO
  isplitl [Hov]; · iexact Hov
  isplitr [HX]
  · isplitl [Hn] <;> iassumption
  iexists _; iexact HX

/-- A device before step `t` of the first loop. -/
def inv1 (m : (ℓ : Loc nD τ sig) → Buf (Elt F) ℓ) (c : Dev nD) (t : ℕ) : sProp 𝕄 :=
  iprop(ctl m c t ∗ fac m c ∗ work m c t ∗ (acc m false c t ∗ lands F false c t) ∗ acc m true c t ∗ lands F true c t)

/-- One step of the first loop. -/
theorem step1 (c : Dev nD) (v5 v10 v16 : BitVec 32) (i : Fin k0_t1_loop.trips)
    {h0 : aM.IsWhole} {h1 : bM.IsWhole} {h2 : oM.IsWhole} {h3 : wM.IsWhole} {h4 : (cM false).IsWhole} {h5 : (cM true).IsWhole} :
    inv1 m c i.val
      ⊢ runs c (k0_t1_body (F := F) aM h0 bM h1 oM h2 wM h3 (cM false) h4 (cM true) h5 cc0_scratch3 cc0_scratch4 cc0_scratch5 cc0_scratch6 cc0_scratch7 cc0_scratch8
          c v5 v10 v16 i ⟨⟩) fun _ => inv1 m c (i.val + 1) := by
  have hi : i.val < 7 := i.isLt
  unfold k0_t1_body
  simp only [k0_part3_eq_skeleton]
  unfold k0_part3_skel
  simp only [semSignalWord, semWaitWord, Prog.lift, Prog.bind_op, Prog.bind_ret, Prog.pure_eq_ret]
  unfold inv1
  rw [acc_last, acc_last]
  iintro ⟨Hctl, HB, HW, ⟨⟨Hsf, Hpf⟩, Hlf⟩, ⟨Hsb, Hpb⟩, Hlb⟩
  ihave Hctl := (ctl_open c (show i.val < 14 by omega)) $$ Hctl
  icases Hctl with ⟨#HR, #Hl, HO, Hst, Hc, Hlat, Hrf, Hrb⟩
  iapply (runs_bind c (part2_spec c v5 v10 v16 0#32 1#32 i)) $$ [HO Hst Hrf Hrb Hsf Hsb HB HW]
  · isplitr; · iexact HR
    isplitr; · iexact Hl
    isplitl [HO]; · iexact HO
    isplitl [Hst]; · iexact Hst
    isplitl [Hrf]; · iexact Hrf
    isplitl [Hrb]; · iexact Hrb
    isplitl [Hsf]; · iexact Hsf
    isplitl [Hsb]; · iexact Hsb
    isplitl [HB] <;> iassumption
  iintro %x ⟨HO, Hst, Hff, Hfb, HB, HW, Hnf, Hnb⟩
  iapply (recv_add false c hi k0_pay8 pay8_eq (pick_SF _ (off5_eq i)) (pick_RF _ (off5_eq i)) (credit_tile_at (k0_off7 c i)) (credit_slab_at false (k0_off6 i)) rfl
    (off17_eq c i) (off18_eq i)) $$ [HO Hff Hnf]
  · isplitr; · iexact HR
    isplitr; · iexact Hl
    isplitl [HO]; · iexact HO
    isplitl [Hff] <;> iassumption
  iintro ⟨HO, Hof, Hsf, Hxf⟩
  iapply (recv_add true c hi k0_pay1 (fun _ _ => rfl) (pick_SB _ (off5_eq i)) (pick_RB _ (off5_eq i)) (credit_tile_at (k0_off8 c i)) (credit_slab_at true (k0_off6 i)) rfl
    (off19_eq c i) (off18_eq i)) $$ [HO Hfb Hnb]
  · isplitr; · iexact HR
    isplitr; · iexact Hl
    isplitl [HO]; · iexact HO
    isplitl [Hfb] <;> iassumption
  iintro ⟨HO, Hob, Hsb, Hxb⟩
  ihave Hdf := (data_next (m := m) false c hi) $$ [Hsf Hpf Hlf Hxf]
  · isplitl [Hsf Hpf]
    · icases Hsf with ⟨H1, H2⟩
      isplitl [H1]; · iexact H1
      isplitl [H2] <;> iassumption
    isplitl [Hlf] <;> iassumption
  icases Hdf with ⟨Haf, Hlf, Hpf⟩
  ihave Hdb := (data_next (m := m) true c hi) $$ [Hsb Hpb Hlb Hxb]
  · isplitl [Hsb Hpb]
    · icases Hsb with ⟨H1, H2⟩
      isplitl [H1]; · iexact H1
      isplitl [H2] <;> iassumption
    isplitl [Hlb] <;> iassumption
  icases Hdb with ⟨Hab, Hlb, Hpb⟩
  iapply (step_close c _ _ (dev5_eq c _) (dev6_eq c _) (t := i.val) (by omega) rfl rfl rfl) $$ [HO Hst Hc Hlat Hof Hpf Hob Hpb]
  · isplitr; · iexact HR
    isplitr; · iexact Hl
    isplitl [HO]; · iexact HO
    isplitl [Hst]; · iexact Hst
    isplitl [Hc]; · iexact Hc
    isplitl [Hlat]; · iexact Hlat
    isplitl [Hof Hpf]
    · isplitl [Hof] <;> iassumption
    isplitl [Hob] <;> iassumption
  iintro Hctl
  iapply runs_ret
  isplitl [Hctl]; · iexact Hctl
  isplitl [HB]; · iexact HB
  isplitl [HW]; · iexact HW
  isplitl [Haf Hlf]
  · isplitl [Haf] <;> iassumption
  isplitl [Hab] <;> iassumption

end Cert.Ring

end
-- ==== Proof.Phase2.lean ====
/-
# A step of the second loop

Seven steps that pass the finished sums around: each device sends the tile it received last in both directions, straight
into the neighbours' results.
-/
module

public import proofs.«01_k».proof.Proof.Phase1

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-- A device before step `t` in the second loop, but for what the loop leaves alone. -/
def inv2 (m : (ℓ : Loc nD τ sig) → Buf (Elt F) ℓ) (c : Dev nD) (t : ℕ) : sProp 𝕄 := iprop(ctl m c t ∗ acc m false c t ∗ acc m true c t)

/-- One direction's data across a step of the second loop. -/
theorem pass_next (b : Bool) (c : Dev nD) {t : ℕ} (h7 : 7 ≤ t) (ht : t < 14) :
    iprop(landing b c t (val m b t (nx (!b) c)) ∗ sum m b c t ∗ past m b c t) ⊢ iprop(acc m b c (t + 1) ∗ spot b c (t + 1)) := by
  have h := acc_next (m := m) b c ht
  rw [if_neg (by omega), show sum m b c (t + 1) = landing b c t (val m b t (nx (!b) c)) by
    unfold sum landing; rw [if_neg (by omega), val_pass m b c (by omega)]] at h
  exact h

/-- One step of the second loop. -/
theorem step2 (c : Dev nD) (v5 v10 v16 : BitVec 32) (i : Fin k0_t2_loop.trips)
    {h0 : aM.IsWhole} {h1 : bM.IsWhole} {h2 : oM.IsWhole} {h3 : wM.IsWhole} {h4 : (cM false).IsWhole} {h5 : (cM true).IsWhole} :
    inv2 m c (7 + i.val)
      ⊢ runs c (k0_t2_body (F := F) aM h0 bM h1 oM h2 wM h3 (cM false) h4 (cM true) h5 cc0_scratch3 cc0_scratch4 cc0_scratch5 cc0_scratch6 cc0_scratch7 cc0_scratch8
          c v5 v10 v16 i ⟨⟩) fun _ => inv2 m c (7 + (i.val + 1)) := by
  have hi : i.val < 7 := i.isLt
  have hl : ∀ b X, landing (F := F) b (nx b c) (7 + i.val) X = owns (nx b c : Thread nD τ) (tileM (chunk b c (7 + i.val)) b) fullShare X := fun b X => by
    unfold landing; rw [if_neg (by omega), chunk_nx b c (by omega)]
  unfold k0_t2_body
  simp only [k0_part4_eq_skeleton]
  unfold k0_part4_skel
  simp only [semSignalWord, semWaitWord, Prog.lift, Prog.bind_op, Prog.bind_ret, Prog.pure_eq_ret]
  unfold inv2
  rw [acc_last, acc_last]
  iintro ⟨Hctl, ⟨Hsf, Hpf⟩, Hsb, Hpb⟩
  ihave Hctl := (ctl_open c (show 7 + i.val < 14 by omega)) $$ Hctl
  icases Hctl with ⟨#HR, #Hl, HO, Hst, Hc, Hlat, Hrf, Hrb⟩
  iapply (step_send false c _ (dev7_eq c _) (t := 7 + i.val) (by omega) (tileM_eq _ false (off21_eq c i)) (tileM_eq _ false (off21_eq c i))
    (pick_SF _ (off20_eq i)) (pick_RF _ (off20_eq i)) (hl false) (credit_tile _ false)) $$ [HO Hst Hrf Hsf]
  · isplitr; · iexact HR
    isplitl [HO]; · iexact HO
    isplitl [Hst]; · iexact Hst
    isplitl [Hrf]; · iexact Hrf
    iexact Hsf
  iintro ⟨HO, Hst, Hff⟩
  iapply (step_send true c _ (dev8_eq c _) (t := 7 + i.val) (by omega) (tileM_eq _ true (off22_eq c i)) (tileM_eq _ true (off22_eq c i))
    (pick_SB _ (off20_eq i)) (pick_RB _ (off20_eq i)) (hl true) (credit_tile _ true)) $$ [HO Hst Hrb Hsb]
  · isplitr; · iexact HR
    isplitl [HO]; · iexact HO
    isplitl [Hst]; · iexact Hst
    isplitl [Hrb]; · iexact Hrb
    iexact Hsb
  iintro ⟨HO, Hst, Hfb⟩
  iapply (step_wait false c (t := 7 + i.val) (by omega) (pick_SF _ (off20_eq i)) (pick_RF _ (off20_eq i)) (credit_tile_at (k0_off21 c i)) (credit_tile_at (k0_off21 c i))) $$ [HO Hff]
  · isplitr; · iexact HR
    isplitr; · iexact Hl
    isplitl [HO] <;> iassumption
  iintro ⟨HO, Hof, Hsf, Hxf⟩
  iapply (step_wait true c (t := 7 + i.val) (by omega) (pick_SB _ (off20_eq i)) (pick_RB _ (off20_eq i)) (credit_tile_at (k0_off22 c i)) (credit_tile_at (k0_off22 c i))) $$ [HO Hfb]
  · isplitr; · iexact HR
    isplitr; · iexact Hl
    isplitl [HO] <;> iassumption
  iintro ⟨HO, Hob, Hsb, Hxb⟩
  ihave Hdf := (pass_next (m := m) false c (t := 7 + i.val) (by omega) (by omega)) $$ [Hsf Hpf Hxf]
  · isplitl [Hxf]; · iexact Hxf
    isplitl [Hsf] <;> iassumption
  icases Hdf with ⟨Haf, Hpf⟩
  ihave Hdb := (pass_next (m := m) true c (t := 7 + i.val) (by omega) (by omega)) $$ [Hsb Hpb Hxb]
  · isplitl [Hxb]; · iexact Hxb
    isplitl [Hsb] <;> iassumption
  icases Hdb with ⟨Hab, Hpb⟩
  iapply (step_close c _ _ (dev9_eq c _) (dev10_eq c _) (t := 7 + i.val) (by omega) rfl rfl rfl) $$ [HO Hst Hc Hlat Hof Hpf Hob Hpb]
  · isplitr; · iexact HR
    isplitr; · iexact Hl
    isplitl [HO]; · iexact HO
    isplitl [Hst]; · iexact Hst
    isplitl [Hc]; · iexact Hc
    isplitl [Hlat]; · iexact Hlat
    isplitl [Hof Hpf]
    · isplitl [Hof] <;> iassumption
    isplitl [Hob] <;> iassumption
  iintro Hctl
  iapply runs_ret
  isplitl [Hctl]; · iexact Hctl
  isplitl [Haf] <;> iassumption

end Cert.Ring

end
-- ==== Proof.Body.lean ====
/-
# A device's whole run

From what a device starts with, through the barrier and the first partial product, the two loops, to the finished result.
-/
module

public import proofs.«01_k».proof.Proof.Pieces
public import proofs.«01_k».proof.Proof.Phase1
public import proofs.«01_k».proof.Proof.Phase2

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-! ## The two loops -/

/-- The first loop goes from step `0` to step `7`. -/
theorem loop1 (c : Dev nD) (v5 v10 v16 : BitVec 32) {h0 : aM.IsWhole} {h1 : bM.IsWhole} {h2 : oM.IsWhole} {h3 : wM.IsWhole} {h4 : (cM false).IsWhole} {h5 : (cM true).IsWhole} :
    inv1 m c 0 ⊢ runs c (Scf.Loop.for k0_t1_loop k0_t1_ok ⟨⟩ (k0_t1_body (F := F) aM h0 bM h1 oM h2 wM h3 (cM false) h4 (cM true) h5 cc0_scratch3 cc0_scratch4 cc0_scratch5 cc0_scratch6 cc0_scratch7 cc0_scratch8 c v5 v10 v16)) fun _ => inv1 m c 7 := by
  refine BIBase.Entails.trans ?_ (Scf.wp_for frame (wpE (defs₀ (F := F)) 𝒱₀ (c : Thread nD τ) none) Set.univ _ _ _ k0_t1_ok _ _
    (fun t _ => inv1 m c t) (fun i _ => step1 c v5 v10 v16 i))
  iintro H
  isplitl [H]; · iexact H
  iintro %x H
  iexact H

/-- The second loop goes from step `7` to step `14`. -/
theorem loop2 (c : Dev nD) (v5 v10 v16 : BitVec 32) {h0 : aM.IsWhole} {h1 : bM.IsWhole} {h2 : oM.IsWhole} {h3 : wM.IsWhole} {h4 : (cM false).IsWhole} {h5 : (cM true).IsWhole} :
    inv2 m c 7 ⊢ runs c (Scf.Loop.for k0_t2_loop k0_t2_ok ⟨⟩ (k0_t2_body (F := F) aM h0 bM h1 oM h2 wM h3 (cM false) h4 (cM true) h5 cc0_scratch3 cc0_scratch4 cc0_scratch5 cc0_scratch6 cc0_scratch7 cc0_scratch8 c v5 v10 v16)) fun _ => inv2 m c 14 := by
  refine BIBase.Entails.trans ?_ (Scf.wp_for frame (wpE (defs₀ (F := F)) 𝒱₀ (c : Thread nD τ) none) Set.univ _ _ _ k0_t2_ok _ _
    (fun t _ => inv2 m c (7 + t)) (fun i _ => step2 c v5 v10 v16 i))
  iintro H
  isplitl [H]; · iexact H
  iintro %x H
  iexact H

/-! ## Start and end -/

/-- What a device has before its first instruction. -/
def entry (m : (ℓ : Loc nD τ sig) → Buf (Elt F) ℓ) (c : Dev nD) : sProp 𝕄 :=
  iprop(records m ∗ levAts L lv ∗ ow c (Ow c 0 + tallyAt (barC (nx false c)) 0 1 + tallyAt (barC (nx true c)) 0 1)
    ∗ (st (barC c) 0 ∗ cred (tallyAt (barC c) 0 2) ∗ dutyTok ER (barC (nx true c)) 0 false ∗ dutyTok ER (barC (nx false c)) 0 true)
    ∗ st (stepC c) 0 ∗ later c 0 ∗ (pos false c 0 ∗ pos true c 0) ∗ (idle m c 0 0 ∗ idle m c 1 0) ∗ fac m c
    ∗ (bigSep Finset.univ fun k => blank (F := F) c k) ∗ (anySlab F false c 0 ∗ anySlab F false c 1) ∗ (anySlab F true c 0 ∗ anySlab F true c 1))
/-- What it has after its last. -/
def done (m : (ℓ : Loc nD τ sig) → Buf (Elt F) ℓ) (c : Dev nD) : sProp 𝕄 :=
  iprop(inv2 m c 14 ∗ st (barC c) 1 ∗ fac m c ∗ work m c 7 ∗ lands F false c 7 ∗ lands F true c 7)

/-- A family over the successors. -/
theorem shifted (s : Finset ℕ) (Φ : ℕ → sProp 𝕄) : bigSep (s.image (· + 1)) Φ = bigSep s fun u => Φ (u + 1) :=
  Finset.fold_image fun x _ y _ e => Nat.succ.inj e

/-- All tiles of the result: those of the first chunk, and those still to come in either direction. -/
theorem blank_all (c : Dev nD) : (bigSep Finset.univ fun k => blank (F := F) c k)
    ⊢ iprop(blank c (chunk true c 0) ∗ fresh F false c 0 ∗ fresh F true c 0) := by
  rw [around8 c, Finset.range_eq_Ico, ico_first (show 0 < 4 by omega)]
  have h : (bigSep (Finset.Ico 0 4) fun u => blank (F := F) c (chunk false c (u + 1))) = fresh F false c 0 := by
    unfold fresh
    rw [show Finset.Ico (0 + 1) (if false then 4 else 5) = (Finset.Ico 0 4).image (· + 1) from by decide]
    exact (shifted (Finset.Ico 0 4) fun u => blank (F := F) c (chunk false c u)).symm
  have h' : (bigSep (Finset.Ico (0 + 1) 4) fun u => blank (F := F) c (chunk true c u)) = fresh F true c 0 := rfl
  rw [h, h']
  iintro ⟨⟨H, H'⟩, Hf⟩
  isplitl [H]; · iexact H
  isplitl [Hf]; · iexact Hf
  iexact H'

/-- The first partial product is what both directions send first. -/
theorem first_sum (c : Dev nD) (b : Bool) : made m c (chunk true c 0) b = sum m b c 0 := by
  have h : chunk true c 0 = chunk b c 0 := by revert c b; decide
  rw [h]; rfl

/-- The first product is what is sent first. -/
theorem start_acc (c : Dev nD) (b : Bool) : made m c (chunk true c 0) b ⊢ acc m b c 0 := by
  rw [first_sum, acc_last]
  unfold past
  rw [ico_nil (show 0 ≤ lo 0 by omega)]
  iintro H
  isplitl [H]; · iexact H
  iempintro

/-- Nothing is made ahead at the start. -/
theorem start_ahead (c : Dev nD) (b : Bool) : iprop(emp) ⊢ ahead m b c 0 := by
  unfold ahead
  rw [ico_nil (show min (0 + 1) (8 - 0) ≤ 1 by omega)]

/-- The landing slot held at the start. -/
theorem start_lands (c : Dev nD) (b : Bool) : anySlab F b c 1 ⊢ lands F b c 0 := by
  unfold lands
  rw [if_pos (show 0 < 7 by omega)]
  iintro H
  isplitl [H]; · iexact H
  iempintro

/-- A device's run. -/
theorem body (c : Dev nD) {h0 : aM.IsWhole} {h1 : bM.IsWhole} {h2 : oM.IsWhole} {h3 : wM.IsWhole} {h4 : (cM false).IsWhole} {h5 : (cM true).IsWhole} :
    entry m c ⊢ runs c (cc0_body (F := F) aM h0 bM h1 oM h2 wM h3 (cM false) h4 (cM true) h5 cc0_scratch3 cc0_scratch4 cc0_scratch5 cc0_scratch6 cc0_scratch7 cc0_scratch8) fun _ => done m c := by
  rw [cc0_body_eq_skeleton]
  unfold cc0_body_skel
  simp only [k0_part5_eq_skeleton, k0_part6_eq_skeleton]
  unfold k0_part5_skel k0_part6_skel
  simp only [semSignalWord, semWaitWord, Prog.lift, Prog.bind_op, Prog.bind_ret, Prog.pure_eq_ret, wp_deviceId]
  have hsp : ∀ b, anySlab F b c 0 = spot (F := F) b c 0 := fun b => by
    unfold spot landing; rw [if_pos (by omega)]; rfl
  have hg : ∀ d : Bool, payOf m (nx (!d) c) (.reg barS) 0 d = give d c 0 := fun d => by
    rw [pay_bar]; congr 1; exact nx_nx d c
  have hb : 0 < roundsOf (.reg barS) := by rw [rounds_bar]; omega
  unfold entry
  iintro ⟨#HR, #Hl, HO, ⟨Hst, Hc, Htf, Htb⟩, Hstep, Hlat, ⟨Hpf, Hpb⟩, ⟨HS0, HS1⟩, HB, Hbl, ⟨Hf0, Hf1⟩, Hb0, Hb1⟩
  ihave Hf0 := (Entails.of_eq (hsp false)) $$ Hf0
  ihave Hb0 := (Entails.of_eq (hsp true)) $$ Hb0
  ihave Hf := (give_intro (F := F) false c 0) $$ [Hpf Hf0]
  · isplitl [Hpf] <;> iassumption
  icases Hf with ⟨Hpf, Hgf⟩
  ihave Hb := (give_intro (F := F) true c 0) $$ [Hpb Hb0]
  · isplitl [Hpb] <;> iassumption
  icases Hb with ⟨Hpb, Hgb⟩
  iapply (mul_start c 0 (r := 0) (by omega) (rowsM_eq _ (off1_eq c)) (slabM_eq wM 0 rfl) (pick_A 0 rfl)) $$ [HS0]
  · isplitr; · iexact HR
    iexact HS0
  iintro HS0
  iapply (signal_reg c _ false (dev1_eq c _) barS hb (hg false) rfl rfl) $$ [HO Htf Hgf]
  · isplitr; · iapply (rec_inv _ (kcell_bar (nx true c))); iexact HR
    isplitl [HO]; · iexact HO
    isplitl [Htf]; · iexact Htf
    isplitl [Hgf]; · iexact Hgf
    iapply (rec_reached _ (kcell_bar (nx true c))); iexact HR
  iintro HO
  iapply (signal_reg c _ true (dev2_eq c _) barS hb (hg true) rfl rfl) $$ [HO Htb Hgb]
  · isplitr; · iapply (rec_inv _ (kcell_bar (nx false c))); iexact HR
    isplitl [HO]; · iexact HO
    isplitl [Htb]; · iexact Htb
    isplitl [Hgb]; · iexact Hgb
    iapply (rec_reached _ (kcell_bar (nx false c))); iexact HR
  iintro HO
  iapply (wait_reg c barS hb (by omega) (fun d => pay_bar m c d 0) ((above_Ow c 0).mono (by rw [lv_bar])) rfl) $$ [HO Hc Hst]
  · isplitr; · iapply (rec_inv _ (kcell_bar c)); iexact HR
    isplitl [Hc]; · iexact Hc
    isplitl [HO]; · iexact HO
    isplitr; · iexact Hl
    iexact Hst
  iintro ⟨HO, Hst, Hgf, Hgb⟩
  iapply (mul_start c 1 (r := 0) (by omega) (rowsM_eq _ (off2_eq c)) (slabM_eq wM 1 rfl) (pick_A 1 rfl)) $$ [HS1]
  · isplitr; · iexact HR
    iexact HS1
  iintro HS1
  ihave Hbl := (blank_all c) $$ Hbl
  icases Hbl with ⟨Hbl, Hnf, Hnb⟩
  iapply (mul_block c 0 (r := 0) (by omega) k0_pay10 k0_pay11 (fun _ _ => rfl) pay11_eq (credit_work 0) (pick_A 0 rfl)
    ((above_Ow c 0).mono (by omega)) rfl rfl rfl (off3_eq c) (off4_eq c)) $$ [HO HS0 HB Hbl]
  · isplitr; · iexact HR
    isplitr; · iexact Hl
    isplitl [HO]; · iexact HO
    isplitl [HS0]; · iexact HS0
    isplitl [HB]; · iexact HB
    iexact Hbl
  iintro ⟨HO, HS0, HB, Hmf, Hmb⟩
  iapply (runs_bind c (loop1 (m := m) c _ _ _)) $$ [HO Hstep Hlat Hpf Hgf Hpb Hgb HB HS0 HS1 Hnf Hnb Hmf Hmb Hf1 Hb1]
  · unfold inv1
    isplitl [HO Hstep Hlat Hpf Hgf Hpb Hgb]
    · unfold ctl
      isplitr; · iexact HR
      isplitr; · iexact Hl
      isplitl [HO]; · iexact HO
      isplitl [Hstep]; · iexact Hstep
      isplitl [Hlat]; · iexact Hlat
      isplitl [Hpf Hgf]
      · isplitl [Hpf] <;> iassumption
      isplitl [Hpb] <;> iassumption
    isplitl [HB]; · iexact HB
    isplitl [HS0 HS1 Hnf Hnb]
    · iapply (Entails.of_eq (work_def m c 0).symm)
      isplitl [HS0 HS1]
      · iapply (Entails.of_eq (slots_early m c (by omega)).symm)
        isplitl [HS0] <;> iassumption
      isplitl [Hnf]; · iexact Hnf
      isplitl [Hnb]; · iexact Hnb
      isplitl
      · iapply (start_ahead c false); iempintro
      iapply (start_ahead c true); iempintro
    isplitl [Hmf Hf1]
    · isplitl [Hmf]
      · iapply (start_acc c false); iexact Hmf
      iapply (start_lands c false); iexact Hf1
    isplitl [Hmb]
    · iapply (start_acc c true); iexact Hmb
    iapply (start_lands c true); iexact Hb1
  iintro %x H
  unfold inv1
  icases H with ⟨Hctl, HB, HW, ⟨Haf, Hlf⟩, Hab, Hlb⟩
  iapply (runs_bind c (loop2 (m := m) c _ _ _)) $$ [Hctl Haf Hab]
  · unfold inv2
    isplitl [Hctl]; · iexact Hctl
    isplitl [Haf] <;> iassumption
  iintro %y H
  iapply runs_ret
  unfold done
  isplitl [H]; · iexact H
  isplitl [Hst]; · iexact Hst
  isplitl [HB]; · iexact HB
  isplitl [HW]; · iexact HW
  isplitl [Hlf] <;> iassumption

end Cert.Ring

end
-- ==== Proof.Finish.lean ====
/-
# The end of a device's run

With nothing left owed and every round past, a device closes its twelve semaphores at zero and gives back all it was lent:
its share of `A`, its share of `B`, the three scratch buffers, and the finished result.
-/
module

public import proofs.«01_k».proof.Proof.Body

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-- The twelve semaphores of a device's cells, at zero. -/
def shut (c : Dev nD) : sProp 𝕄 := bigSep Finset.univ fun i : Fin 12 => semVal (kcell (c, i)) 0

/-- The twelve semaphores at zero, one by one. -/
theorem shut_eq (c : Dev nD) : shut (F := F) c
    = iprop(semVal (aC c 0) 0 ∗ semVal (aC c 1) 0 ∗ semVal (sC false c 0) 0 ∗ semVal (sC false c 1) 0 ∗ semVal (rC false c 0) 0 ∗ semVal (rC false c 1) 0
      ∗ semVal (sC true c 0) 0 ∗ semVal (sC true c 1) 0 ∗ semVal (rC true c 0) 0 ∗ semVal (rC true c 1) 0 ∗ semVal (stepC c) 0 ∗ semVal (barC c) 0) := by
  unfold shut
  rw [bigSep_univ_eq_bigSepL [0, 1, 2, 3, 4, 5, 6, 7, 8, 9, 10, 11] (by decide) (by decide)]; rfl

/-- A cell past its last round closes at zero. -/
theorem close_cell (g : GSem nD τ sig) {r : ℕ} (h : roundsOf g.2 ≤ r) : iprop(cinv m g ∗ st g r) ⊢ (iprop(|={Set.univ}=> semVal g 0) : sProp 𝕄) := by
  unfold cinv st
  iintro ⟨⟨%κ, HI⟩, Hat, -⟩
  iapply (Rounds.cell_close ER (rd m) (Set.mem_univ κ) (fun h => h) (R := r) (duties_end m g r h))
  isplitl [HI] <;> iassumption

/-- The four cells of one direction close. -/
theorem close_dir (b : Bool) (c : Dev nD) : iprop(records m ∗ pos b c 14)
    ⊢ (|={Set.univ}=> iprop(semVal (sC b c 0) 0 ∗ semVal (sC b c 1) 0 ∗ semVal (rC b c 0) 0 ∗ semVal (rC b c 1) 0) : sProp 𝕄) := by
  unfold pos
  rw [show slot 14 = 0 from rfl, show slot (14 + 1) = 1 from rfl]
  iintro ⟨#HR, H1, H2, H3, H4⟩
  imod (close_cell (m := m) (sC b c 0) (r := 14 / 2) ((rounds_S b 0).le.trans (by decide))) $$ [H1] with H1
  · isplitr; · iapply (rec_inv _ (kcell_S b c 0)); iassumption
    iassumption
  imod (close_cell (m := m) (sC b c 1) (r := (14 + 1) / 2) ((rounds_S b 1).le.trans (by decide))) $$ [H2] with H2
  · isplitr; · iapply (rec_inv _ (kcell_S b c 1)); iassumption
    iassumption
  imod (close_cell (m := m) (rC b c 0) (r := 14 / 2) ((rounds_R b 0).le.trans (by decide))) $$ [H3] with H3
  · isplitr; · iapply (rec_inv _ (kcell_R b c 0)); iassumption
    iassumption
  imod (close_cell (m := m) (rC b c 1) (r := (14 + 1) / 2) ((rounds_R b 1).le.trans (by decide))) $$ [H4] with H4
  · isplitr; · iapply (rec_inv _ (kcell_R b c 1)); iassumption
    iassumption
  imodintro
  isplitl [H1]; · iassumption
  isplitl [H2]; · iassumption
  isplitl [H3] <;> iassumption

/-- A slot that has made its four copies: its cell closes, and its half of the buffer and its share of `A` are free. -/
theorem close_slot (c : Dev nD) (s : Fin 2) : iprop(records m ∗ idle m c s 4)
    ⊢ (|={Set.univ}=> iprop(semVal (aC c s) 0 ∗ (∃ X, slab c wM s X) ∗ bigSep (Finset.range 4) fun u => rows m c (workChunk c s u)) : sProp 𝕄) := by
  unfold idle
  iintro ⟨#HR, H1, H2, -, H4⟩
  imod (close_cell (m := m) (aC c s) (r := 4) ((rounds_A s).le.trans (by decide))) $$ [H1] with H1
  · isplitr; · iapply (rec_inv _ (kcell_A c s)); iassumption
    iassumption
  imodintro
  isplitl [H1]; · iassumption
  isplitl [H2]; · iassumption
  iassumption

/-- What a finished device gives back. -/
def gone (m : (ℓ : Loc nD τ sig) → Buf (Elt F) ℓ) (c : Dev nD) : sProp 𝕄 :=
  iprop(ow c 0 ∗ shut c ∗ fac m c ∗ owns (c : Thread nD τ) oM fullShare (outAt m c)
    ∗ ((c : Thread nD τ).loc main_arg0 ↦{fullShare} m ((c : Thread nD τ).loc main_arg0))
    ∗ (∃ X, owns (c : Thread nD τ) wM fullShare X) ∗ (∃ X, owns (c : Thread nD τ) (cM false) fullShare X)
    ∗ ∃ X, owns (c : Thread nD τ) (cM true) fullShare X)

/-- The two halves of a landing buffer make it whole. -/
theorem lands_join (b : Bool) (c : Dev nD) : lands F b c 7 ⊢ (iprop(∃ X, owns (c : Thread nD τ) (cM b) fullShare X) : sProp 𝕄) := by
  unfold lands anySlab
  rw [if_neg (by decide), show slot (7 + 1) = 0 from rfl, show slot 7 = 1 from rfl]
  exact slabs_join c (cM b)

/-- After the last step every cell is closed and every buffer is whole. -/
theorem finish (c : Dev nD) : done m c ⊢ (iprop(|={Set.univ}=> gone m c) : sProp 𝕄) := by
  unfold done inv2 ctl gone
  rw [work_def, slots_late m c (by decide), Ow_end, shut_eq]
  iintro ⟨⟨⟨#HR, -, Ho, Hst, -, ⟨Hp0, -⟩, Hp1, -⟩, Ha0, Ha1⟩, Hb, Hf, ⟨⟨Hi0, Hi1⟩, -⟩, Hl0, Hl1⟩
  imod (close_dir (m := m) false c) $$ [Hp0] with ⟨S0, S1, S2, S3⟩
  · isplitr <;> iassumption
  imod (close_dir (m := m) true c) $$ [Hp1] with ⟨S4, S5, S6, S7⟩
  · isplitr <;> iassumption
  imod (close_slot (m := m) c 0) $$ [Hi0] with ⟨A0, W0, R0⟩
  · isplitr <;> iassumption
  imod (close_slot (m := m) c 1) $$ [Hi1] with ⟨A1, W1, R1⟩
  · isplitr <;> iassumption
  imod (close_cell (m := m) (stepC c) (r := 14) (rounds_step.le.trans (by decide))) $$ [Hst] with T0
  · isplitr; · iapply (rec_inv _ (kcell_step c)); iassumption
    iassumption
  imod (close_cell (m := m) (barC c) (r := 1) (rounds_bar.le.trans (by decide))) $$ [Hb] with T1
  · isplitr; · iapply (rec_inv _ (kcell_bar c)); iassumption
    iassumption
  imodintro
  isplitl [Ho]; · iassumption
  isplitl [S0 S1 S2 S3 S4 S5 S6 S7 A0 A1 T0 T1]
  · isplitl [A0]; · iassumption
    isplitl [A1]; · iassumption
    isplitl [S0]; · iassumption
    isplitl [S1]; · iassumption
    isplitl [S2]; · iassumption
    isplitl [S3]; · iassumption
    isplitl [S4]; · iassumption
    isplitl [S5]; · iassumption
    isplitl [S6]; · iassumption
    isplitl [S7]; · iassumption
    isplitl [T0] <;> iassumption
  isplitl [Hf]; · iassumption
  isplitl [Ha0 Ha1]
  · iapply (result_join (m := m) c); isplitl [Ha0] <;> iassumption
  isplitl [R0 R1]
  · iapply (left_join (m := m) c); isplitl [R0] <;> iassumption
  isplitl [W0 W1]
  · iapply (slabs_join c wM); isplitl [W0] <;> iassumption
  isplitl [Hl0]
  · iapply (lands_join false c); iassumption
  · iapply (lands_join true c); iassumption

end Cert.Ring

end
-- ==== Proof.Deal.lean ====
/-
# Dealing out the tokens and the credits

Each cell's tokens are minted with the device that owns the cell; a device needs those of the cells it pays. They go once
around the ring. The credits come from what the neighbours owe.
-/
module

public import proofs.«01_k».proof.Proof.Finish

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

/-! ## Tokens -/

/-- The tokens of one device's cells: six for each step, one for each copy of `A`, two for the barrier. -/
abbrev Tok : Type := (Fin 6 × Fin 14) ⊕ ((Fin 2 × Fin 4) ⊕ Bool)

/-- The tokens of step `u`: both directions' send and receive, and the two neighbours' signals. -/
def stepTok (u : ℕ) : Fin 6 → SemLoc sig × ℕ × Bool :=
  ![(.dma (qS false (slot u)), u / 2, false), (.dma (qR false (slot u)), u / 2, false), (.dma (qS true (slot u)), u / 2, false),
    (.dma (qR true (slot u)), u / 2, false), (.reg stepS, u, false), (.reg stepS, u, true)]

/-- Semaphore, round and duty of a token. -/
def tokAt : Tok → SemLoc sig × ℕ × Bool
  | .inl x => stepTok x.2.val x.1
  | .inr (.inl x) => (.dma (qA x.1), x.2.val, false)
  | .inr (.inr d) => (.reg barS, 0, d)

/-- Different payments have different places in the schedule. -/
theorem tokAt_inj : Function.Injective tokAt := by decide +kernel

/-- The cell, round and payment that a device and a payment's name stand for. -/
def tokOf (x : Dev nD × Tok) : GSem nD τ sig × ℕ × Bool := (((x.1 : Thread nD τ), (tokAt x.2).1), (tokAt x.2).2.1, (tokAt x.2).2.2)

/-- Different names are different payments. -/
theorem tokOf_inj : Function.Injective tokOf := fun x y h => by
  have h1 : x.1 = y.1 := congrArg (fun z : GSem nD τ sig × ℕ × Bool => z.1.1.1) h
  have h2 : tokAt x.2 = tokAt y.2 := congrArg (fun z : GSem nD τ sig × ℕ × Bool => (z.1.2, z.2.1, z.2.2)) h
  exact Prod.ext h1 (tokAt_inj h2)

/-- Different numbers are different semaphores. -/
theorem csem_inj : Function.Injective csem := by decide +kernel

/-- Different names are different cells. -/
theorem kcell_inj : Function.Injective (kcell : Dev nD × Fin 12 → GSem nD τ sig) := fun x y h => by
  have h1 : x.1 = y.1 := congrArg (fun z : GSem nD τ sig => z.1.1) h
  have h2 : csem x.2 = csem y.2 := congrArg Prod.snd h
  exact Prod.ext h1 (csem_inj h2)

/-- All the cells of the ring. -/
def allCells : Finset (GSem nD τ sig) := Finset.univ.map ⟨kcell, kcell_inj⟩
/-- All the payments of the ring. -/
def allToks : Finset (GSem nD τ sig × ℕ × Bool) := Finset.univ.map ⟨tokOf, tokOf_inj⟩

variable (F)

/-- Device `c`'s tokens for sending in direction `b`; -/
def sendToks (b : Bool) (c : Dev nD) : sProp 𝕄 := bigSep Finset.univ fun u : Fin 14 => dutyTok ER (sC b c (slot u.val)) (u.val / 2) false
/-- for what lands on it; -/
def recvToks (b : Bool) (c : Dev nD) : sProp 𝕄 := bigSep Finset.univ fun u : Fin 14 => dutyTok ER (rC b c (slot u.val)) (u.val / 2) false
/-- for the signals that reach it; -/
def sigToks (d : Bool) (c : Dev nD) : sProp 𝕄 := bigSep Finset.univ fun u : Fin 14 => dutyTok ER (stepC c) u.val d
/-- for the copies of a slot; -/
def copyToks (s : Fin 2) (c : Dev nD) : sProp 𝕄 := bigSep Finset.univ fun u : Fin 4 => dutyTok ER (aC c s) u.val false
/-- for its barrier. -/
def barTok (d : Bool) (c : Dev nD) : sProp 𝕄 := dutyTok ER (barC c) 0 d

/-- The tokens of device `c`'s own cells. -/
def dealt (c : Dev nD) : sProp 𝕄 :=
  iprop((sendToks F false c ∗ recvToks F false c ∗ sendToks F true c ∗ recvToks F true c ∗ sigToks F false c ∗ sigToks F true c)
    ∗ (copyToks F 0 c ∗ copyToks F 1 c) ∗ barTok F false c ∗ barTok F true c)
/-- The tokens device `c` pays with. -/
def paid (c : Dev nD) : sProp 𝕄 :=
  iprop((sendToks F false c ∗ recvToks F false (nx false c) ∗ sendToks F true c ∗ recvToks F true (nx true c)
      ∗ sigToks F false (nx (!false) c) ∗ sigToks F true (nx (!true) c))
    ∗ (copyToks F 0 c ∗ copyToks F 1 c) ∗ barTok F false (nx (!false) c) ∗ barTok F true (nx (!true) c))

/-- The minted tokens of one device, sorted. -/
theorem dealt_eq (c : Dev nD) : (bigSep Finset.univ fun t : Tok => (dutyTok ER (tokOf (c, t)).1 (tokOf (c, t)).2.1 (tokOf (c, t)).2.2 : sProp 𝕄)) = dealt F c := by
  rw [BI.bigSep_univ_sum, BI.bigSep_univ_sum, BI.bigSep_univ_prod, BI.bigSep_univ_prod,
    bigSep_univ_eq_bigSepL [(0 : Fin 6), 1, 2, 3, 4, 5] (by decide) (by decide), bigSep_univ_eq_bigSepL [(0 : Fin 2), 1] (by decide) (by decide),
    bigSep_univ_eq_bigSepL [false, true] (by decide) (by decide)]
  rfl

/-- A family over the devices, read at each one's neighbour. -/
theorem turn (b : Bool) (Φ : Dev nD → sProp 𝕄) : bigSep Finset.univ Φ ⊢ bigSep Finset.univ fun c => Φ (nx b c) :=
  Entails.of_eq (BI.bigSep_univ_equiv (ring b) Φ)

/-- The tokens go once around the ring. -/
theorem around : (bigSep Finset.univ fun c : Dev nD => dealt F c) ⊢ bigSep Finset.univ fun c : Dev nD => paid F c := by
  unfold dealt paid
  simp only [bigSep_sep']
  iintro ⟨⟨H1, H2, H3, H4, H5, H6⟩, ⟨H7, H8⟩, H9, H10⟩
  isplitl [H1 H2 H3 H4 H5 H6]
  · isplitl [H1]; · iexact H1
    isplitl [H2]; · iapply (turn F false fun c => recvToks F false c); iassumption
    isplitl [H3]; · iexact H3
    isplitl [H4]; · iapply (turn F true fun c => recvToks F true c); iassumption
    isplitl [H5]; · iapply (turn F (!false) fun c => sigToks F false c); iassumption
    iapply (turn F (!true) fun c => sigToks F true c); iassumption
  isplitl [H7 H8]
  · isplitl [H7]; · iexact H7
    iexact H8
  isplitl [H9]; · iapply (turn F (!false) fun c => barTok F false c); iassumption
  iapply (turn F (!true) fun c => barTok F true c); iassumption

variable {F}

/-! ## What the launch deals -/

/-- The kernel's eleven own semaphores. -/
def osem : Fin 11 → SemLoc sig := fun i => csem i.castSucc

/-- The kernel's own semaphores, one by one. -/
theorem ownSems_eq (c : Dev nD) : (Pipeline.ownSems0 (Ix := ℕ) (Name := ℕ) (U := UU) (Lvl := ℕ) (Val := Elt F) (τ := τ) osem c : sProp 𝕄)
    = iprop(semVal (aC c 0) 0 ∗ semVal (aC c 1) 0 ∗ semVal (sC false c 0) 0 ∗ semVal (sC false c 1) 0 ∗ semVal (rC false c 0) 0 ∗ semVal (rC false c 1) 0
      ∗ semVal (sC true c 0) 0 ∗ semVal (sC true c 1) 0 ∗ semVal (rC true c 0) 0 ∗ semVal (rC true c 1) 0 ∗ semVal (stepC c) 0) := by
  rw [Pipeline.ownSems0_eq_of_list c osem [0, 1, 2, 3, 4, 5, 6, 7, 8, 9, 10] (by decide) (by decide)]; rfl
/-- The one semaphore that outlives the kernel is the barrier. -/
theorem unscoped_eq (c : Dev nD) : (unscopedSems0 c : sProp 𝕄) = semVal (barC c) 0 := by
  unfold unscopedSems0; rw [bigSep_eq_bigSepL_of_eq [SemLoc.reg barS] (by decide) (by decide)]; rfl

/-- The twelve semaphores at zero are the kernel's eleven and the runtime's one. -/
theorem shut_of (c : Dev nD) : iprop(Pipeline.ownSems0 (Ix := ℕ) (Name := ℕ) (U := UU) (Lvl := ℕ) (Val := Elt F) (τ := τ) osem c ∗ unscopedSems0 c) ⊢ shut (F := F) c := by
  rw [ownSems_eq, unscoped_eq, shut_eq]
  iintro ⟨⟨H0, H1, H2, H3, H4, H5, H6, H7, H8, H9, H10⟩, H11⟩
  isplitl [H0]; · iassumption
  isplitl [H1]; · iassumption
  isplitl [H2]; · iassumption
  isplitl [H3]; · iassumption
  isplitl [H4]; · iassumption
  isplitl [H5]; · iassumption
  isplitl [H6]; · iassumption
  isplitl [H7]; · iassumption
  isplitl [H8]; · iassumption
  isplitl [H9]; · iassumption
  isplitl [H10] <;> iassumption
/-- The semaphores at zero are the barrier and the kernel's own. -/
theorem of_shut (c : Dev nD) : shut (F := F) c ⊢ iprop(unscopedSems0 c ∗ Pipeline.ownSems0 (Ix := ℕ) (Name := ℕ) (U := UU) (Lvl := ℕ) (Val := Elt F) (τ := τ) osem c) := by
  rw [ownSems_eq, unscoped_eq, shut_eq]
  iintro ⟨H0, H1, H2, H3, H4, H5, H6, H7, H8, H9, H10, H11⟩
  isplitl [H11]; · iassumption
  isplitl [H0]; · iassumption
  isplitl [H1]; · iassumption
  isplitl [H2]; · iassumption
  isplitl [H3]; · iassumption
  isplitl [H4]; · iassumption
  isplitl [H5]; · iassumption
  isplitl [H6]; · iassumption
  isplitl [H7]; · iassumption
  isplitl [H8]; · iassumption
  isplitl [H9] <;> iassumption

/-- Positions before the first round. -/
def heads (F : FTy → Type) [FloatOps F] (c : Dev nD) : sProp (MM F) := bigSep Finset.univ fun i : Fin 12 => atPos ER (kcell (c, i)) 0 ∅ 0

/-- What the launch's element gives device `c`. -/
def G (m : (ℓ : Loc nD τ sig) → Buf (Elt F) ℓ) (c : Dev nD) : sProp 𝕄 :=
  iprop((bigSep Finset.univ fun i : Fin 12 => roundState ER (rd m) (kcell (c, i)) 0)
    ∗ (bigSep Finset.univ fun i : Fin 12 => reached ER (kcell (c, i)) 0) ∗ heads F c ∗ dealt F c)
/-- What device `c` starts with once every cell has its invariant. -/
def G' (m : (ℓ : Loc nD τ sig) → Buf (Elt F) ℓ) (c : Dev nD) : sProp 𝕄 := iprop(records m ∗ heads F c ∗ paid F c)

/-- A family over all cells, device by device. -/
theorem allCells_eq (Φ : GSem nD τ sig → sProp 𝕄) :
    bigSep allCells Φ = bigSep Finset.univ fun c : Dev nD => bigSep Finset.univ fun i : Fin 12 => Φ (kcell (c, i)) := by
  unfold allCells; rw [bigSep_map, BI.bigSep_univ_prod]; rfl
/-- All the payments, device by device. -/
theorem allToks_eq : bigSep allToks (fun x => (dutyTok ER x.1 x.2.1 x.2.2 : sProp 𝕄)) = bigSep Finset.univ fun c : Dev nD => dealt F c := by
  unfold allToks; rw [bigSep_map, BI.bigSep_univ_prod]
  exact bigSep_congr fun c _ => dealt_eq F c

/-- The ring's rounds at their start give every device its cells and payments. -/
theorem fund_all (m : (ℓ : Loc nD τ sig) → Buf (Elt F) ℓ) : BI.own (ER (initOf allCells allToks)) ⊢ (|==> bigSep Finset.univ (G m) : sProp 𝕄) := by
  iintro H
  imod (Rounds.fund ER (rd m) allCells allToks) $$ H with ⟨H1, H2, H3, H4⟩
  imodintro
  ihave H1 := (Entails.of_eq (allCells_eq fun g => roundState ER (rd m) g 0)) $$ H1
  ihave H2 := (Entails.of_eq (allCells_eq fun g => reached ER g 0)) $$ H2
  ihave H3 := (Entails.of_eq (allCells_eq fun g => atPos ER g 0 ∅ 0)) $$ H3
  ihave H4 := (Entails.of_eq allToks_eq) $$ H4
  unfold G heads; simp only [bigSep_sep']
  isplitl [H1]; · iexact H1
  isplitl [H2]; · iexact H2
  isplitl [H3]; · iexact H3
  iexact H4

/-- One device's cells get their invariants. -/
theorem cells_alloc (m : (ℓ : Loc nD τ sig) → Buf (Elt F) ℓ) (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun i : Fin 12 => iprop(cinv m (kcell (c, i)) ∗ reached ER (kcell (c, i)) 0)) ∗ heads F c ∗ dealt F c) := by
  unfold G
  iintro ⟨Ho, Hu, Hst, Hr, Hh, Hd⟩
  ihave Hv := (shut_of (F := F) c) $$ [Ho Hu]
  · isplitl [Ho] <;> iassumption
  imod (show iprop(shut c ∗ bigSep Finset.univ fun i : Fin 12 => roundState ER (rd m) (kcell (c, i)) 0)
      ⊢ (|={Set.univ}=> bigSep Finset.univ fun i : Fin 12 => cinv m (kcell (c, i)) : sProp 𝕄) from by
        unfold shut
        rw [← bigSep_sep']
        exact (bigSep_mono fun i _ => (Rounds.body_intro ER (rd m) (kcell (c, i))).trans inv_alloc).trans (bigSep_fupd _ _)) $$ [Hv Hst] with Hi
  · isplitl [Hv] <;> iassumption
  imodintro
  isplitl [Hi Hr]
  · iapply (Entails.of_eq (bigSep_sep' Finset.univ (fun i : Fin 12 => cinv m (kcell (c, i))) (fun i => reached ER (kcell (c, i)) 0)).symm)
    isplitl [Hi] <;> iassumption
  isplitl [Hh] <;> iassumption

/-- A persistent assertion beside a family joins each of its members. -/
theorem join_all {R : sProp 𝕄} [BI.Persistent R] (Φ : Dev nD → sProp 𝕄) : iprop(R ∗ bigSep Finset.univ Φ) ⊢ bigSep Finset.univ fun c => iprop(R ∗ Φ c) :=
  (sep_mono_left (BI.bigSep_of_persistent Finset.univ R)).trans (Entails.of_eq (bigSep_sep' _ _ _).symm)

/-- The payments handed out to those who make them, with the records for all. -/
theorem regroup (m : (ℓ : Loc nD τ sig) → Buf (Elt F) ℓ) :
    (bigSep Finset.univ fun c : Dev nD => iprop((bigSep Finset.univ fun i : Fin 12 => iprop(cinv m (kcell (c, i)) ∗ reached ER (kcell (c, i)) 0)) ∗ heads F c ∗ dealt F c) : sProp 𝕄)
      ⊢ bigSep Finset.univ (G' m) := by
  rw [bigSep_sep', bigSep_sep', ← BI.bigSep_univ_prod (fun x : Dev nD × Fin 12 => iprop(cinv m (kcell x) ∗ reached ER (kcell x) 0))]
  iintro ⟨#HR, Hh, Hd⟩
  iapply (join_all (R := records m) fun c => iprop(heads F c ∗ paid F c))
  isplitr; · unfold records; iexact HR
  iapply (Entails.of_eq (bigSep_sep' Finset.univ (fun c : Dev nD => heads F c) (fun c => paid F c)).symm)
  isplitl [Hh]; · iassumption
  iapply (around F); iassumption

/-- All devices' cells get their invariants, and the tokens go around. -/
theorem glob (m : (ℓ : Loc nD τ sig) → Buf (Elt F) ℓ) :
    (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => cells_alloc m c).trans (bigSep_fupd _ _)).trans (BI.fupd_mono (regroup m))

/-! ## Credits -/

/-- What a device owes at the start. -/
def O₀ (c : Dev nD) : CellTallies nD τ sig ℕ := Ow c 0 + tallyAt (barC (nx false c)) 0 1 + tallyAt (barC (nx true c)) 0 1

/-- A device's credits: for its barrier, and for every step. -/
def creds (F : FTy → Type) [FloatOps F] (c : Dev nD) : sProp (MM F) :=
  iprop(cred (tallyAt (barC c) 0 2) ∗ bigSep (Finset.Ico 0 14) fun u => iprop(cred (tallyAt (rC false c (slot u)) (u / 2) N)
    ∗ cred (tallyAt (rC true c (slot u)) (u / 2) N) ∗ cred (tallyAt (stepC c) u 2)))

/-- What the neighbours owe a device is its credit. -/
theorem from_ring (b : Bool) (sm : SemLoc sig) (i n : ℕ) (c : Dev nD) :
    (Pipeline.launchCred (fun d => tallyAt ((nx b d : Thread nD τ), sm) i n) c : sProp 𝕄) ⊢ cred (tallyAt ((c : Thread nD τ), sm) i n) :=
  Pipeline.launchCred_tallyAt sm (nx b) (nx (!b)) (nx_nx b) (nx_nx' b) i n c

/-- Two signals owed to a cell are a credit of two. -/
theorem two_credits (g : GSem nD τ sig) (i : ℕ) : iprop(cred (tallyAt g i 1) ∗ cred (tallyAt g i 1)) ⊢ (cred (tallyAt g i 2) : sProp 𝕄) := by
  rw [show (2 : ℕ) = 1 + 1 from rfl, ← tallyAt_add]; exact (cred_add _ _).2

/-- What a device is owed for one step. -/
theorem step_creds (u : ℕ) (c : Dev nD) : (Pipeline.launchCred (fun d => stepOwe d u) c : sProp 𝕄)
    ⊢ iprop(cred (tallyAt (rC false c (slot u)) (u / 2) N) ∗ cred (tallyAt (rC true c (slot u)) (u / 2) N) ∗ cred (tallyAt (stepC c) u 2)) := by
  unfold stepOwe sigOwe
  rw [Pipeline.launchCred_add (fun d => tallyAt (stepC (nx false d)) u 1 + tallyAt (stepC (nx true d)) u 1 + tallyAt (rC true (nx true d) (slot u)) (u / 2) N)
      (fun d => tallyAt (rC false (nx false d) (slot u)) (u / 2) N),
    Pipeline.launchCred_add (fun d => tallyAt (stepC (nx false d)) u 1 + tallyAt (stepC (nx true d)) u 1) (fun d => tallyAt (rC true (nx true d) (slot u)) (u / 2) N),
    Pipeline.launchCred_add (fun d => tallyAt (stepC (nx false d)) u 1) (fun d => tallyAt (stepC (nx true d)) u 1)]
  iintro ⟨⟨⟨H1, H2⟩, H3⟩, H4⟩
  isplitl [H4]; · iapply (from_ring false _ _ _ c); iassumption
  isplitl [H3]; · iapply (from_ring true _ _ _ c); iassumption
  iapply (two_credits (stepC c) u)
  isplitl [H1]; · iapply (from_ring false _ _ _ c); iassumption
  iapply (from_ring true _ _ _ c); iassumption

/-- What a device is owed for the whole run. -/
theorem all_creds (c : Dev nD) : (Pipeline.launchCred O₀ c : sProp 𝕄) ⊢ creds F c := by
  unfold O₀ creds
  rw [Pipeline.launchCred_add (fun d => Ow d 0 + tallyAt (barC (nx false d)) 0 1) (fun d => tallyAt (barC (nx true d)) 0 1),
    Pipeline.launchCred_add (fun d => Ow d 0) (fun d => tallyAt (barC (nx false d)) 0 1)]
  unfold Ow
  rw [Pipeline.launchCred_sum (Finset.Ico 0 14) (fun u d => stepOwe d u)]
  iintro ⟨⟨H1, H2⟩, H3⟩
  isplitl [H2 H3]
  · iapply (two_credits (barC c) 0)
    isplitl [H2]; · iapply (from_ring false _ _ _ c); iassumption
    iapply (from_ring true _ _ _ c); iassumption
  have h : iprop(bigSep (Finset.Ico 0 14) fun u => (Pipeline.launchCred (fun d => stepOwe d u) c : sProp 𝕄))
      ⊢ iprop(bigSep (Finset.Ico 0 14) fun u => iprop(cred (tallyAt (rC false c (slot u)) (u / 2) N)
        ∗ cred (tallyAt (rC true c (slot u)) (u / 2) N) ∗ cred (tallyAt (stepC c) u 2))) := bigSep_mono fun u _ => step_creds u c
  iapply h
  iassumption

end Cert.Ring

end
-- ==== Proof.Launch.lean ====
/-
# The launch

The eight devices launched together: every execution ends, every device's result holds `outAt`, and all else is as it was.
-/
module

public import proofs.«01_k».proof.Proof.Deal
public import Idealize.ShloMosaic.Lib.Pipeline.CollectiveSegs

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

open Idealize.ShloMosaic.Pipeline (Dat Cfg Window BodyObligation cellOf)

/-! ## From the launch to a device's run -/

/-- Device `c`'s left factor in its memory. -/
abbrev left (m : (ℓ : Loc nD τ sig) → Buf (Elt F) ℓ) (c : Dev nD) : sProp 𝕄 :=
  (c : Thread nD τ).loc main_arg0 ↦{fullShare} m ((c : Thread nD τ).loc main_arg0)
/-- The three scratch buffers, holding anything. -/
def scratch (F : FTy → Type) [FloatOps F] (c : Dev nD) : sProp (MM F) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What a device starts from, its scratch buffers aside. -/
def start (m : (ℓ : Loc nD τ sig) → Buf (Elt F) ℓ) (c : Dev nD) : sProp 𝕄 := iprop(G' m c ∗ creds F c ∗ levAts L lv ∗ left m c)
/-- What the body starts from. -/
def Φ₀ (m : (ℓ : Loc nD τ sig) → Buf (Elt F) ℓ) (c : Dev nD) : sProp 𝕄 := iprop(start m c ∗ scratch F c)
/-- What is left at the end. -/
def Φ₁ (m : (ℓ : Loc nD τ sig) → Buf (Elt F) ℓ) (c : Dev nD) : sProp 𝕄 := iprop(shut c ∗ left m c ∗ scratch F c)

/-- A cell's records and its first position are the cell at its start. -/
theorem st_of (x : Dev nD × Fin 12) {g : GSem nD τ sig} (h : kcell x = g) : iprop(records m ∗ atPos ER (kcell x) 0 ∅ 0) ⊢ st g 0 := by
  subst h
  unfold st
  iintro ⟨#HR, H⟩
  isplitl [H]; · iassumption
  iapply (rec_reached x rfl); iassumption

/-- A device's twelve cells at their start, one by one. -/
theorem heads_eq (c : Dev nD) : heads F c
    = iprop(atPos ER (kcell (c, iA 0)) 0 ∅ 0 ∗ atPos ER (kcell (c, iA 1)) 0 ∅ 0
      ∗ atPos ER (kcell (c, iS false 0)) 0 ∅ 0 ∗ atPos ER (kcell (c, iS false 1)) 0 ∅ 0
      ∗ atPos ER (kcell (c, iR false 0)) 0 ∅ 0 ∗ atPos ER (kcell (c, iR false 1)) 0 ∅ 0
      ∗ atPos ER (kcell (c, iS true 0)) 0 ∅ 0 ∗ atPos ER (kcell (c, iS true 1)) 0 ∅ 0
      ∗ atPos ER (kcell (c, iR true 0)) 0 ∅ 0 ∗ atPos ER (kcell (c, iR true 1)) 0 ∅ 0
      ∗ atPos ER (kcell (c, 10)) 0 ∅ 0 ∗ atPos ER (kcell (c, 11)) 0 ∅ 0) := by
  unfold heads
  rw [bigSep_univ_eq_bigSepL [0, 1, 2, 3, 4, 5, 6, 7, 8, 9, 10, 11] (by decide) (by decide)]; rfl

/-- Where one direction's cells stand at the start. -/
theorem pos_start (b : Bool) (c : Dev nD) :
    iprop(records m ∗ atPos ER (kcell (c, iS b 0)) 0 ∅ 0 ∗ atPos ER (kcell (c, iS b 1)) 0 ∅ 0 ∗ atPos ER (kcell (c, iR b 0)) 0 ∅ 0 ∗ atPos ER (kcell (c, iR b 1)) 0 ∅ 0)
      ⊢ pos b c 0 := by
  unfold pos
  rw [show slot 0 = 0 from rfl, show slot (0 + 1) = 1 from rfl, show (0 : ℕ) / 2 = 0 from rfl]
  iintro ⟨#HR, H1, H2, H3, H4⟩
  isplitl [H1]; · iapply (st_of (m := m) _ (kcell_S b c 0)); isplitr <;> iassumption
  isplitl [H2]; · iapply (st_of (m := m) _ (kcell_S b c 1)); isplitr <;> iassumption
  isplitl [H3]; · iapply (st_of (m := m) _ (kcell_R b c 0)); isplitr <;> iassumption
  iapply (st_of (m := m) _ (kcell_R b c 1)); isplitr <;> iassumption

/-- A family over `Fin n` is one over the numbers below `n`. -/
theorem fin_Ico (n : ℕ) (Φ : ℕ → sProp 𝕄) : (bigSep Finset.univ fun u : Fin n => Φ u.val) ⊢ bigSep (Finset.Ico 0 n) Φ := by
  refine Entails.of_eq ?_
  have h : Finset.Ico 0 n = Finset.univ.map (Fin.valEmbedding (n := n)) := by
    rw [Fin.map_valEmbedding_univ]; ext x; simp
  rw [h, bigSep_map]; rfl

/-- Tokens and credits, step by step. -/
theorem later_start (c : Dev nD) : iprop((sendToks F false c ∗ recvToks F false (nx false c) ∗ sendToks F true c ∗ recvToks F true (nx true c)
      ∗ sigToks F false (nx (!false) c) ∗ sigToks F true (nx (!true) c))
    ∗ bigSep (Finset.Ico 0 14) fun u => iprop(cred (tallyAt (rC false c (slot u)) (u / 2) N)
      ∗ cred (tallyAt (rC true c (slot u)) (u / 2) N) ∗ cred (tallyAt (stepC c) u 2))) ⊢ later (F := F) c 0 := by
  unfold later toks
  simp only [bigSep_sep']
  iintro ⟨⟨H1, H2, H3, H4, H5, H6⟩, H7, H8, H9⟩
  isplitl [H1 H2 H5 H7]
  · isplitl [H1]; · iapply (fin_Ico 14 fun u => dutyTok ER (sC false c (slot u)) (u / 2) false); unfold sendToks; iexact H1
    isplitl [H2]; · iapply (fin_Ico 14 fun u => dutyTok ER (rC false (nx false c) (slot u)) (u / 2) false); unfold recvToks; iexact H2
    isplitl [H5]; · iapply (fin_Ico 14 fun u => dutyTok ER (stepC (nx (!false) c)) u false); unfold sigToks; iexact H5
    iexact H7
  isplitl [H3 H4 H6 H8]
  · isplitl [H3]; · iapply (fin_Ico 14 fun u => dutyTok ER (sC true c (slot u)) (u / 2) false); unfold sendToks; iexact H3
    isplitl [H4]; · iapply (fin_Ico 14 fun u => dutyTok ER (rC true (nx true c) (slot u)) (u / 2) false); unfold recvToks; iexact H4
    isplitl [H6]; · iapply (fin_Ico 14 fun u => dutyTok ER (stepC (nx (!true) c)) u true); unfold sigToks; iexact H6
    iexact H8
  iexact H9

/-- A slot before its first copy. -/
theorem idle_start (c : Dev nD) (s : Fin 2) :
    iprop(records m ∗ atPos ER (kcell (c, iA s)) 0 ∅ 0 ∗ (∃ X, slab c wM s X) ∗ copyToks F s c ∗ bigSep (Finset.range 4) fun u => rows m c (workChunk c s u))
      ⊢ idle m c s 0 := by
  unfold idle
  iintro ⟨#HR, H1, H2, H3, H4⟩
  isplitl [H1]; · iapply (st_of (m := m) _ (kcell_A c s)); isplitr <;> iassumption
  isplitl [H2]; · iassumption
  isplitl [H3]; · iapply (fin_Ico 4 fun u => dutyTok ER (aC c s) u false); unfold copyToks; iexact H3
  iassumption

/-- A whole landing buffer is its two halves. -/
theorem halves (b : Bool) (c : Dev nD) (X : S2x512x2048.Idx → Elt F .bf16) :
    owns (c : Thread nD τ) (cM b) fullShare X ⊢ iprop(anySlab F b c 0 ∗ anySlab F b c 1) := slabs_split c (cM b) X

/-- A scratch buffer owned through its memory location. -/
theorem whole_of (c : Dev nD) (b : Ref sig .tc) :
    iprop(∃ f : Buf (Elt F) ((c : Thread nD τ).loc b), ((c : Thread nD τ).loc b) ↦{fullShare} f)
      = (iprop(∃ X, owns (c : Thread nD τ) (Memref.whole b) fullShare X) : sProp 𝕄) := by
  simp only [owns_whole]

/-- The three scratch buffers, whole. -/
theorem scratch_eq (c : Dev nD) : scratch F c
    = iprop((∃ X, owns (c : Thread nD τ) wM fullShare X) ∗ (∃ X, owns (c : Thread nD τ) (cM false) fullShare X)
      ∗ ∃ X, owns (c : Thread nD τ) (cM true) fullShare X) := by
  unfold scratch
  rw [whole_of, whole_of, whole_of]; rfl

/-- All a device starts with. -/
theorem entry_of (c : Dev nD) : iprop(Φ₀ m c ∗ ow c (O₀ c) ∗ fac m c ∗ ∃ X, owns (c : Thread nD τ) oM fullShare X) ⊢ entry m c := by
  unfold Φ₀ start G' paid creds entry barTok
  rw [scratch_eq, heads_eq]
  iintro ⟨⟨⟨⟨#HR, ⟨A0, A1, S0, S1, R0, R1, S2, S3, R2, R3, T, B⟩, Hs, ⟨C0, C1⟩, D0, D1⟩, ⟨Hb, Hc⟩, Hl, HA⟩, ⟨%X0, W⟩, ⟨%X1, Y⟩, %X2, Z⟩, Ho, Hf, %X3, HO⟩
  ihave HA := (left_split (m := m) c) $$ HA
  icases HA with ⟨L0, L1⟩
  ihave W := (slabs_split c wM X0) $$ W
  icases W with ⟨W0, W1⟩
  isplitr; · iassumption
  isplitl [Hl]; · iassumption
  isplitl [Ho]; · iexact Ho
  isplitl [B Hb D0 D1]
  · isplitl [B]; · iapply (st_of (m := m) _ (kcell_bar c)); isplitr <;> iassumption
    isplitl [Hb]; · iassumption
    isplitl [D0]; · iexact D0
    iexact D1
  isplitl [T]; · iapply (st_of (m := m) _ (kcell_step c)); isplitr <;> iassumption
  isplitl [Hs Hc]; · iapply (later_start c); isplitl [Hs] <;> iassumption
  isplitl [S0 S1 S2 S3 R0 R1 R2 R3]
  · isplitl [S0 S1 R0 R1]
    · iapply (pos_start (m := m) false c)
      isplitr; · iassumption
      isplitl [S0]; · iassumption
      isplitl [S1]; · iassumption
      isplitl [R0] <;> iassumption
    · iapply (pos_start (m := m) true c)
      isplitr; · iassumption
      isplitl [S2]; · iassumption
      isplitl [S3]; · iassumption
      isplitl [R2] <;> iassumption
  isplitl [A0 A1 W0 W1 C0 C1 L0 L1]
  · isplitl [A0 W0 C0 L0]
    · iapply (idle_start (m := m) c 0)
      isplitr; · iassumption
      isplitl [A0]; · iassumption
      isplitl [W0]; · iassumption
      isplitl [C0] <;> iassumption
    · iapply (idle_start (m := m) c 1)
      isplitr; · iassumption
      isplitl [A1]; · iassumption
      isplitl [W1]; · iassumption
      isplitl [C1] <;> iassumption
  isplitl [Hf]; · iassumption
  isplitl [HO]; · iapply (result_split c X3); iassumption
  isplitl [Y]; · iapply (halves false c X1); iassumption
  iapply (halves true c X2); iassumption

/-! ## The region -/

/-- The one point of the kernel's grid. -/
theorem the_point (t : Fin cfg0.N) : t = t0_0 := fin_N0 t

variable (m) (ρ : Dev nD → PrngReg)

/-- What the one grid point takes and leaves. -/
def dats (_ : Fin 1) (c : Dev nD) : Dat τ (Elt F) ℕ ℕ UU ℕ cfg0 c where
  A w := m ((cfg0.win w).arr.view.loc (c : Thread nD τ))
  after w _ := match w with
    | ⟨0, _⟩ => bstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- What the body is given. -/
def bodyPre (c : Dev nD) : sProp 𝕄 :=
  iprop(Φ₀ m c ∗ (dats m 0 c).owesAt 0 t0_0.castSucc
    ∗ (∃ d, owns (c : Thread nD τ) bM fullShare ((dats m 0 c).before (0 : Fin 2) t0_0 d))
    ∗ (∃ d, owns (c : Thread nD τ) oM fullShare ((dats m 0 c).before (1 : Fin 2) t0_0 d)))
/-- What the body gives back. -/
def bodyPost (c : Dev nD) : sProp 𝕄 :=
  iprop(Φ₁ m c ∗ (dats m 0 c).owesAt 0 t0_0.succ
    ∗ owns (c : Thread nD τ) bM fullShare (bstg m c) ∗ owns (c : Thread nD τ) oM fullShare (outAt m c))

/-- The right factor is fetched before the body. -/
theorem before_B (c : Dev nD) (d) : (dats m 0 c).before (0 : Fin 2) t0_0 d = bstg m c := by
  unfold Dat.before
  rw [if_pos (show (cfg0.win (0 : Fin 2)).fetch t0_0 = true from rfl)]; rfl

/-- What the body is given is what its proof starts from. -/
theorem pre_entry (c : Dev nD) : bodyPre m c ⊢ entry m c := by
  unfold bodyPre
  iintro ⟨H, ⟨%W, -, Ho⟩, ⟨%d, Hf⟩, ⟨%d', HO⟩⟩
  iapply (entry_of (m := m) c)
  isplitl [H]; · iassumption
  isplitl [Ho]; · unfold ow; iexists W; iexact Ho
  isplitl [Hf]
  · unfold fac
    rw [before_B]
    iexact Hf
  iexists _; iexact HO

/-- What its proof ends with is what the body gives back. -/
theorem done_post (c : Dev nD) : gone m c ⊢ bodyPost m c := by
  unfold gone bodyPost Φ₁ fac
  rw [scratch_eq]
  unfold ow
  iintro ⟨⟨%W, Ho⟩, Hs, Hf, HO, HA, H1, H2, H3⟩
  isplitl [Hs HA H1 H2 H3]
  · isplitl [Hs]; · iassumption
    isplitl [HA]; · iassumption
    isplitl [H1]; · iassumption
    isplitl [H2] <;> iassumption
  isplitl [Ho]
  · iexists W
    isplitr; · ipureintro; exact fun _ _ => Or.inl trivial
    iexact Ho
  isplitl [Hf]; · iexact Hf
  iassumption

/-- A device's run, from what the region hands its body to what the body hands back. -/
theorem run_body (c : Dev nD) {h0 : aM.IsWhole} {h1 : bM.IsWhole} {h2 : oM.IsWhole} {h3 : wM.IsWhole} {h4 : (cM false).IsWhole} {h5 : (cM true).IsWhole} :
    bodyPre m c ⊢ runs c (cc0_body (F := F) aM h0 bM h1 oM h2 wM h3 (cM false) h4 (cM true) h5 cc0_scratch3 cc0_scratch4 cc0_scratch5 cc0_scratch6 cc0_scratch7 cc0_scratch8) fun _ => bodyPost m c := by
  refine (pre_entry m c).trans ((body c).trans (BIBase.Entails.trans (wp_mono _ _ _ fun _ => ?_) (wp_fupd _ _ _ _ _)))
  refine (finish c).trans (BI.fupd_mono (done_post m c))

set_option maxRecDepth 4000 in
/-- The body does at its one grid point what the launch asks. -/
theorem body_obligation (c : Dev nD) : BodyObligation (dats m 0 c) (defs₀ (F := F)) 𝒱₀ 0 Set.univ := fun t => by
  rw [the_point t]
  rw [bigSep_W0, bigSep_W0]
  exact run_body m c

/-! ## The launch's conditions -/

/-- The kernel's own semaphores are not the staging pipeline's. -/
theorem own_facts : Pipeline.OwnSemFacts cfg0.spec osem := by decide

/-- Every array is held whole. -/
theorem share_full (c : Dev nD) (w : Fin cfg0.W) : (dats m 0 c).share w = fullShare := by unfold Dat.share; split <;> rfl

/-- The ghost state of the launch: the staging pipeline's and the ring's. -/
def u₀ : UU := (initOf (Pipeline.cells cfgs cellOf_inj) (Pipeline.launchToks cfgs cellOf_inj), initOf allCells allToks)

/-- All a device owes at the start lies above the bottom. -/
theorem above_start (c : Dev nD) : Above 0 (O₀ c) :=
  (((above_Ow c 0).mono (by omega)).add (Above.tally _ _ (by omega) (by rw [lv_bar]; omega))).add (Above.tally _ _ (by omega) (by rw [lv_bar]; omega))

/-- The staging pipeline may wait whatever a device owes. -/
theorem waits (c : Dev nD) : (levAts L lv : sProp 𝕄) ⊢ Pipeline.cellsWaits cfgs (dats m) 0 0 c :=
  Pipeline.cellsWaits_intro cfgs (dats m) 0 0 c fun w s t => mayWait_above c _ (by omega) (by
    have hlv : lv ((c : Thread nD τ), .dma ((cfg0.win w).sem s)) 0 = 0 := by fin_cases w <;> fin_cases s <;> rfl
    refine Above.mono (n := 0) ?_ (le_of_eq hlv)
    rcases t with ⟨_ | _, ht⟩
    · exact above_start c
    · exact Above.zero 0)

/-- What the launch hands a device is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HA, Hl, Hc, -, HG⟩
  imodintro
  unfold start
  isplitl
  · isplitl [HG]; · iassumption
    isplitl [Hc]; · iapply (all_creds c); iassumption
    isplitl [Hl] <;> iassumption
  · iempintro

/-- What a device starts from and the scratch buffers are what the grid starts from. -/
theorem phi_start (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨H, -, Hr⟩
  isplitl [H]; · iexact H
  iexact Hr

/-- What a device still holds when its region is over. -/
def rest (c : Dev nD) : sProp 𝕄 := iprop(unscopedSems0 c ∗ left m c)

/-- What the grid ends with is what is kept, the kernel's own semaphores at zero and the scratch buffers. -/
theorem phi_end (c : Dev nD) : (dats m 0 c).Φ (Fin.last cfg0.N) ⊢ iprop(rest m c ∗ Pipeline.ownSems0 osem c ∗ Pipeline.scopedRest cfg0.spec c) := by
  rw [show (dats m 0 c).Φ (Fin.last cfg0.N) = Φ₁ m c from rfl, scopedRest0_eq]
  unfold Φ₁ scratch rest
  iintro ⟨Hs, HA, Hr⟩
  ihave Hs := (of_shut c) $$ Hs
  icases Hs with ⟨Hu, Ho⟩
  isplitl [Hu HA]; · isplitl [Hu] <;> iassumption
  isplitl [Ho]; · iassumption
  iexact Hr

/-- What a final state shows of what a device still holds. -/
def kept (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)

/-- A final state shows the barrier at zero and the left factor as it was. -/
theorem read_rest (c : Dev nD) (s : Phys nD τ sig (Elt F)) : iprop(rest m c ∗ emp ∗ SI s) ⊢ |={Set.univ}=> iprop(⌜kept m c s.mem⌝ ∗ SI s) := by
  unfold rest
  iintro ⟨⟨Hu, HA⟩, -, HS⟩
  imod (Pipeline.unscopedSems0_read (X := unscopedSems0 c) (c := c) fupd_intro s) $$ [Hu HS] with ⟨%h1, HS⟩
  · isplitl [Hu] <;> iassumption
  icombine HS HA gives %h2
  imodintro
  isplitr
  · ipureintro; exact ⟨h1, funext fun i => h2 i (Finset.mem_univ i)⟩
  iassumption

/-! ## The run -/

/-- What a window's array holds at the end. -/
def finalA (c : Dev nD) (w : Fin cfg0.W) : Buf (Elt F) ((cfg0.win w).arr.view.loc (c : Thread nD τ)) := (dats m 0 c).arrAt w cfg0.N

set_option maxRecDepth 8000 in
/-- Every execution ends, with every window's array at its final contents, the left factor as it was and every semaphore at zero. -/
theorem run_arrays : θ_run defs (onTc (τ := τ) (main (F := F))) (⟨m, fun _ => 0, ρ⟩ : MemSt nD τ sig (Elt F)) (fun r =>
    ((∀ c : Dev nD, ∀ w : Fin cfg0.W, r.2.mem ((cfg0.win w).arr.view.loc (c : Thread nD τ)) = finalA m c w)
      ∧ ∀ c : Dev nD, r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) 0 cellOf_inj (0 : Fin 1)
    winFacts0.to₀ own_facts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := rest m) (Z := fun _ => iprop(emp))
    (hX := start_intro m ρ) (hin := phi_start m) (hout := phi_end m)
    (QY := kept m) (hY := read_rest m)
    (hQ := fun _ h hs => ⟨⟨fun c w => (h c).1 w, fun c => (h c).2.2.2⟩, sem_eq_zero hs fun c => (h c).2.2.1⟩)

end Cert.Ring

end
-- ==== Proof.Run.lean ====
/-
# The run of the eight devices

Every execution ends with every device's result at `outAt`, both arguments as they were and every semaphore at zero.
-/
module

public import proofs.«01_k».proof.Proof.Launch
public import Idealize.ShloMosaic.Lib.Pipeline.ValueKit

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

variable (m) (ρ : Dev nD → PrngReg)

/-- The right factor is as it was. -/
theorem final_B (c : Dev nD) : finalA m c (0 : Fin 2) = m ((c : Thread nD τ).loc main_arg1) :=
  (dats (F := F) m 0 c).arrAt_in (0 : Fin 2) rfl _

/-- The result's one block is the whole result. -/
theorem final_out (c : Dev nD) : finalA m c (1 : Fin 2) = outAt m c := by
  unfold finalA
  refine (dats (F := F) m 0 c).arrAt_eq_of_after_last (1 : Fin 2) t0_0 (by decide +kernel) _ fun j => ?_
  blk_simp
  rfl

/-- Every execution ends with every device's result at `outAt`, both arguments as they were and every semaphore at zero. -/
theorem run_main : θ_run defs (onTc (τ := τ) (main (F := F))) (⟨m, fun _ => 0, ρ⟩ : MemSt nD τ sig (Elt F)) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1.1 c (1 : Fin 2)).trans (final_out m c), h.1.2 c, (h.1.1 c (0 : Fin 2)).trans (final_B m c)⟩, h.2⟩)
    (run_arrays m ρ)

/-- The right factor in its staging buffer is the whole right factor. -/
theorem bstg_eq (c : Dev nD) : bstg m c = m ((c : Thread nD τ).loc main_arg1) := by
  unfold bstg
  funext j
  blk_simp
  have h0 : ∀ a : Fin 2, win0_0.index (⟨0, by decide⟩ : Fin grid0.N) a = 0 := by decide +kernel
  exact congrArg (m ((c : Thread nD τ).loc main_arg1)) (funext fun (a : Fin 2) => Fin.ext
    (win0_0.rect_emb_val_of_index_zero (⟨0, by decide⟩ : Fin grid0.N) a (h0 a) j))

end Cert.Ring

end
-- ==== Proof.Value.lean ====
/-
# What the devices hold at the end, over the reals

Each entry of every device's result is the sum, over the devices, of that device's product of its own slices.
-/
module

public import proofs.«01_k».proof.Proof.Run
public import Idealize.ShloMosaic.Lib.MatmulPlain
public import Idealize.ShloMosaic.Lib.StackMember
public import Mathlib.Algebra.BigOperators.Fin

@[expose] public section

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable {m : (ℓ : Loc nD τ sig) → Buf (Elt F) ℓ}
variable {α : Type} {Q : α → sProp (MM F)}

variable (M : (ℓ : Loc nD τ sig) → Buf (Elt Ideal) ℓ)

/-- Device `d`'s left factor. -/
abbrev leftOf (d : Dev nD) : S4096x2048.Idx → EReal := M ((d : Thread nD τ).loc main_arg0)
/-- Device `d`'s right factor. -/
abbrev rightOf (d : Dev nD) : S2048x4096.Idx → EReal := M ((d : Thread nD τ).loc main_arg1)

/-- Entry `i` of the product of device `d`'s own slices. -/
def cell (d : Dev nD) (i : S4096x4096.Idx) : EReal :=
  ∑ q : Fin 2048, leftOf M d (ValueIdx.ix2 (n0 := 4096) (n1 := 2048) (i 0) q) * rightOf M d (ValueIdx.ix2 (n0 := 2048) (n1 := 4096) q (i 1))

/-! ## One partial product -/

/-- The squeezed block back from the one-slot array. -/
theorem unsq_cast (X : S512x2048.Idx → EReal) (h : S1x512x2048.ShapeCasts S512x2048) :
    shapeCast S512x2048 (unsq (Val := Elt Ideal) X) h = X := by
  funext j
  show X (Shape.reshapeEquiv _ (Shape.reshapeEquiv _ j)) = X j
  rw [Shape.reshapeEquiv_reshapeEquiv, Shape.reshapeEquiv_self]

/-- The product of a block of rows by half of the columns, entry by entry. -/
theorem mul_apply (X : S512x2048.Idx → EReal) (Y : S2048x2048.Idx → EReal) (j : S512x2048.Idx) :
    k0_pay10 (F := Ideal) (unsq X) Y j
      = ∑ q : Fin 2048, X (ValueIdx.ix2 (n0 := 512) (n1 := 2048) (j 0) q) * Y (ValueIdx.ix2 (n0 := 2048) (n1 := 2048) q (j 1)) := by
  have e : k0_pay10 (F := Ideal) (unsq X) Y
      = FloatOps.matmul (F := Ideal) (φ₁ := .bf16) (φ₂ := .bf16) (DotDims.plain 512 2048 2048) none X Y (constant (F := Ideal) S512x2048 .f32 0x00000000#32) := by
    have h : k0_pay10 (F := Ideal) (unsq X) Y = FloatOps.matmul (F := Ideal) (φ₁ := .bf16) (φ₂ := .bf16) (DotDims.plain 512 2048 2048) none
        (shapeCast S512x2048 (unsq (Val := Elt Ideal) X) shapeCasts_S1x512x2048_S512x2048)
        (shapeCast S2048x2048 Y shapeCasts_S2048x2048_S2048x2048) (constant (F := Ideal) S512x2048 .f32 0x00000000#32) := rfl
    rw [h, unsq_cast, shapeCast_self]
  rw [e, ValueIdx.eq_ix2 j]
  refine (Ideal.matmul_plain_apply (φ₁ := .bf16) (φ₂ := .bf16) none X Y _ (j 0) (j 1)).trans ?_
  rw [show constant (F := Ideal) S512x2048 .f32 0x00000000#32 (ValueIdx.ix2 (j 0) (j 1)) = (0 : EReal) from Ideal.ofBits_zero_f32, zero_add]

/-- The sum of two blocks, entry by entry. -/
theorem add_apply (X Y : S512x2048.Idx → EReal) (j : S512x2048.Idx) : k0_pay1 (F := Ideal) X (unsq Y) j = X j + Y j := by
  have h : k0_pay1 (F := Ideal) X (unsq Y) j = shapeCast S512x2048 X shapeCasts_S512x2048_S512x2048 j
      + shapeCast S512x2048 (unsq (Val := Elt Ideal) Y) shapeCasts_S1x512x2048_S512x2048 j := rfl
  rw [h, unsq_cast, shapeCast_self]

/-- A device's partial product is a tile of the product of its slices. -/
theorem part_apply (d : Dev nD) (k : Fin 8) (h : Bool) (j : S512x2048.Idx) : part M d k h j = cell M d ((tileR k h).emb j) := by
  unfold part
  rw [mul_apply]
  refine Finset.sum_congr rfl fun q _ => ?_
  congr 1
  · refine congrArg (leftOf M d) (funext fun a => Fin.ext ?_)
    fin_cases a
    · rfl
    · show 0 + 1 * q.val = q.val; omega
  · unfold halfOf
    rw [bstg_eq]
    refine congrArg (rightOf M d) (funext fun a => Fin.ext ?_)
    fin_cases a
    · show 0 + 1 * q.val = q.val; omega
    · rfl

/-! ## Sums round the ring -/

/-- The device `u` places back. -/
abbrev back (b : Bool) (c : Dev nD) (u : ℕ) : Dev nD := (nx (!b))^[u] c

/-- After `t` additions a block is the sum of the partial products of the last `t + 1` devices. -/
theorem val_sum (b : Bool) (j : S512x2048.Idx) : ∀ (t : ℕ) (c : Dev nD), t ≤ 7 →
    val M b t c j = ∑ u ∈ Finset.range (t + 1), part M (back b c u) (chunk b c t) b j
  | 0, c, _ => by rw [val_zero, Finset.sum_range_one]; rfl
  | t + 1, c, ht => by
    rw [val_add M b c (by omega), add_apply, val_sum b j t _ (by omega), chunk_from b c (by omega), Finset.sum_range_succ' _ (t + 1), add_comm]
    rfl

/-- Going round the ring meets every device once. -/
theorem back_bij (b : Bool) (c : Dev nD) : Function.Bijective fun u : Fin 8 => back b c u.val := by
  revert b c; decide

/-- Every finished block is the sum of all the devices' partial products. -/
theorem val_all (b : Bool) (j : S512x2048.Idx) : ∀ (s : ℕ) (c : Dev nD), s < 8 →
    val M b (7 + s) c j = ∑ d : Dev nD, part M d (chunk b c (7 + s)) b j
  | 0, c, _ => by
    rw [val_sum M b j 7 c le_rfl, Finset.sum_range]
    exact (back_bij b c).sum_comp fun d => part M d (chunk b c 7) b j
  | s + 1, c, hs => by
    rw [show 7 + (s + 1) = (7 + s) + 1 from rfl, val_pass M b c (by omega), val_all b j s _ (by omega), chunk_from b c (by omega)]

/-- The step at which a chunk is finished or comes in is a step of that chunk. -/
theorem last_chunk (b : Bool) (c : Dev nD) (k : Fin 8) : chunk b c (lastAt b c k) = k := by
  revert b c k; decide

/-- Every entry of every device's result is the sum over the devices of that entry of their own products. -/
theorem outAt_apply (c : Dev nD) (i : S4096x4096.Idx) : outAt M c i = ∑ d : Dev nD, cell M d i := by
  have hi := Finset.mem_univ i
  rw [← tileR_cover] at hi
  obtain ⟨⟨k, h⟩, -, hm⟩ := Finset.mem_biUnion.mp hi
  obtain ⟨j, rfl⟩ : ∃ j, (tileR k h).emb j = i := (tileR k h).exists_idx_of_mem hm
  refine (congrFun (outAt_tile (m := M) c k h) j).trans ?_
  have hl : lastAt h c k = 7 + (if h then k.val + 9 - cyc c else cyc c + 9 - k.val) % 8 := rfl
  have hv := val_all M h j _ c (Nat.mod_lt (if h then k.val + 9 - cyc c else cyc c + 9 - k.val) (by decide : 0 < 8))
  rw [← hl, last_chunk] at hv
  exact hv.trans (Finset.sum_congr rfl fun d _ => part_apply M d k h j)

end Cert.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem

/-- At any floats the kernel ends with its arguments as they were and its semaphores at zero. -/
theorem quiet {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.Ring.run_main m ρ)

/-- The two kernels' bodies are the same, label by label. -/
theorem bodies_eq : Cert.Kernel.defs₀ (F := Bits) = Cert.KernelIdeal.defs₀ (F := Bits) := by
  funext p ℓ x
  cases p
  · fin_cases ℓ
    rfl
  all_goals rfl

/-- The two kernels' tables are the same. -/
theorem tables_eq : Cert.Kernel.defs (F := Bits) = Cert.KernelIdeal.defs (F := Bits) :=
  congrArg (Pipeline.defs (Cert.KernelIdeal.pcfgs (F := Bits))) bodies_eq

/-- The kernel on bits ends with its arguments as they were and its semaphores at zero: it has the idealized kernel's
    text, so this is the same run. -/
theorem frame_kernel : Cert.quiescent_Kernel := fun m ρ _ => by
  rw [tables_eq]
  exact quiet (F := Bits) m ρ

/-- The idealized kernel ends with its arguments as they were and its semaphores at zero. -/
theorem frame_kernelIdeal : Cert.quiescent_KernelIdeal := fun m ρ _ => quiet (F := Ideal) m ρ

/-- The reference leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The product of the whole arrays -/

/-- The reference's product read at an entry, over the reals. -/
theorem whole_apply (A : Cert.ReferenceIdeal.S4096x16384.Idx → EReal) (B : Cert.ReferenceIdeal.S16384x4096.Idx → EReal) (i : Cert.ReferenceIdeal.S4096x4096.Idx) :
    Host.dotGeneral (F := Ideal) (φ₁ := .f32) (φ₂ := .f32) Cert.ReferenceIdeal.dot_S4096x16384_S16384x4096_S4096x4096_1_0_0_1_n_n none A B i
      = ∑ K : Fin (8 * 2048), A (ValueIdx.ix2 (n0 := 4096) (n1 := 16384) (i 0) K) * B (ValueIdx.ix2 (n0 := 16384) (n1 := 4096) K (i 1)) := by
  conv_lhs => rw [ValueIdx.eq_ix2 i]
  exact StackMember.dotGeneral_plain_apply (φ₁ := .f32) (φ₂ := .f32) none A B (i 0) (i 1)

/-- The whole product is the sum, over the devices, of the products of their slices. -/
theorem whole_split (M : (ℓ : Loc Cert.KernelIdeal.nD Cert.KernelIdeal.τ Cert.KernelIdeal.sig) → Buf (Elt Ideal) ℓ)
    (A : Cert.ReferenceIdeal.S4096x16384.Idx → EReal) (B : Cert.ReferenceIdeal.S16384x4096.Idx → EReal)
    (hA : ∀ d : Dev Cert.KernelIdeal.nD, Cert.Ring.leftOf M d = Layout.block ⟨2, ![4096, 2048]⟩ ⟨2, ![4096, 16384]⟩ 1 8 d A)
    (hB : ∀ d : Dev Cert.KernelIdeal.nD, Cert.Ring.rightOf M d = Layout.block ⟨2, ![2048, 4096]⟩ ⟨2, ![16384, 4096]⟩ 0 8 d B)
    (i : Cert.ReferenceIdeal.S4096x4096.Idx) :
    (∑ d : Dev Cert.KernelIdeal.nD, Cert.Ring.cell M d i)
      = ∑ K : Fin (8 * 2048), A (ValueIdx.ix2 (n0 := 4096) (n1 := 16384) (i 0) K) * B (ValueIdx.ix2 (n0 := 16384) (n1 := 4096) K (i 1)) := by
  rw [← Equiv.sum_comp finProdFinEquiv, Fintype.sum_prod_type]
  refine Finset.sum_congr rfl fun d _ => Finset.sum_congr rfl fun q _ => ?_
  rw [hA, hB, Layout.block_apply, Layout.block_apply]
  have hK : ∀ (d : Fin 8) (q : Fin 2048), (finProdFinEquiv (d, q)).val = d.val * 2048 + q.val := fun d q => by
    show q.val + 2048 * d.val = _; omega
  congr 1
  · refine congrArg A (funext fun a => Fin.ext ?_)
    fin_cases a
    · rfl
    · exact (hK d q).symm
  · refine congrArg B (funext fun a => Fin.ext ?_)
    fin_cases a
    · exact (hK d q).symm
    · rfl

/-- Over the reals every device ends with the product of the whole arrays. -/
theorem value : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  refine (θ_run Cert.KernelIdeal.defs _ _).mono (fun r h c => ⟨(h.1 c).1.trans ?_, (h.1 c).2⟩) (Cert.Ring.run_main (F := Ideal) m ρ)
  funext i
  rw [Cert.Ring.outAt_apply, whole_split m _ _ (fun d => (hagree d).1) (fun d => (hagree d).2) i]
  exact (whole_apply _ _ i).symm

/-- The claims together. -/
theorem claim : Cert.Claim :=
  ⟨Cert.Kernel.Gen.facts, Cert.KernelIdeal.Gen.facts, Cert.ReferenceIdeal.Gen.facts, frame_kernel, frame_kernelIdeal, frame_reference,
    trivial, value⟩

end Cert.Proof

end
